-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_bfloat16 [hPre_within_bfloat16 : Cert.Pre_within_bfloat16.Facts] (m : (ℓ : Loc Cert.KernelIdeal.nD Cert.KernelIdeal.τ Cert.KernelIdeal.sig) → Buf (Elt Ideal) ℓ) : Prop :=
  ∀ c : Dev Cert.KernelIdeal.nD,
    (Cert.Pre_within_bfloat16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_within_bfloat16.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_bfloat16 [hPre_within_bfloat16 : Cert.Pre_within_bfloat16.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_bfloat16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_within_bfloat16.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_bfloat16 [hKernelIdeal : Cert.KernelIdeal.Facts] [hPre_within_bfloat16 : Cert.Pre_within_bfloat16.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_bfloat16 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_within_bfloat16 [hReferenceIdeal : Cert.ReferenceIdeal.Facts] [hPre_within_bfloat16 : Cert.Pre_within_bfloat16.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_bfloat16 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_within_bfloat16 [hKernelIdeal : Cert.KernelIdeal.Facts] [hReferenceIdeal : Cert.ReferenceIdeal.Facts] [hPre_within_bfloat16 : Cert.Pre_within_bfloat16.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_bfloat16 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v1_0)) (v3 : (c : Dev Cert.KernelIdeal.nD) → Buf (Elt Ideal) ((c.tc : Thread Cert.KernelIdeal.nD Cert.KernelIdeal.τ).loc Cert.KernelIdeal.main_v5)) (v4 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v1_0) = v2 c
          ∧ r.2.mem ((c.tc : Thread Cert.KernelIdeal.nD Cert.KernelIdeal.τ).loc Cert.KernelIdeal.main_v5) = v3 c
          ∧ r.2.mem ((c.tc : Thread Cert.KernelIdeal.nD Cert.KernelIdeal.τ).loc Cert.KernelIdeal.main_v6) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v3) = v3 c
          ∧ r.2.mem ((c.tc : Thread Cert.ReferenceIdeal.nD Cert.ReferenceIdeal.τ).loc Cert.ReferenceIdeal.main_v4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_within_bfloat16 : Cert.Pre_within_bfloat16.Facts),
    quiescent_Kernel (hKernel := hKernel)
    ∧ quiescent_KernelIdeal (hKernelIdeal := hKernelIdeal)
    ∧ quiescent_KernelIdeal_pre_within_bfloat16 (hKernelIdeal := hKernelIdeal) (hPre_within_bfloat16 := hPre_within_bfloat16)
    ∧ quiescent_ReferenceIdeal (hReferenceIdeal := hReferenceIdeal)
    ∧ quiescent_ReferenceIdeal_pre_within_bfloat16 (hReferenceIdeal := hReferenceIdeal) (hPre_within_bfloat16 := hPre_within_bfloat16)
    ∧ preserves_Kernel_KernelIdeal
    ∧ algebraic_KernelIdeal_ReferenceIdeal_pre_within_bfloat16 (hKernelIdeal := hKernelIdeal) (hReferenceIdeal := hReferenceIdeal) (hPre_within_bfloat16 := hPre_within_bfloat16)
-- ==== Pre_within_bfloat16.lean ====
abbrev S4x1024x8448 : Shape := ⟨3, ![4, 1024, 8448]⟩
abbrev S4096x8448 : Shape := ⟨2, ![4096, 8448]⟩
abbrev S_ : Shape := ⟨0, ![]⟩

class Facts : Prop where
  bitsLt_bf16_f32 : FTy.bits .bf16 < FTy.bits .f32
  bcast_S_S4x1024x8448 : S_.BroadcastsInDim S4x1024x8448 (![] : Fin 0 → Fin S4x1024x8448.rank)
  bcast_S_S4096x8448 : S_.BroadcastsInDim S4096x8448 (![] : Fin 0 → Fin S4096x8448.rank)

variable [Facts]

def fn {F : FTy → Type} [FloatOps F] (main_arg0 : FVec F S4x1024x8448 .bf16) (main_arg1 : FVec F S4096x8448 .bf16) : IVec S4x1024x8448 1 × IVec S4096x8448 1 :=
  let main_v0 : FVec F S4x1024x8448 .f32 := (extf .f32 · bitsLt_bf16_f32) main_arg0
  let main_v1 : FVec F S4x1024x8448 .f32 := Host.absf main_v0
  let main_cst : FVec F S_ .f32 := constant S_ .f32 0x7F7F0000#32
  let main_v2 : FVec F S4x1024x8448 .f32 := broadcastInDim S4x1024x8448 ![] bcast_S_S4x1024x8448 main_cst
  let main_v3 : IVec S4x1024x8448 1 := cmpf .ole main_v1 main_v2
  let main_cst_0 : FVec F S_ .f32 := constant S_ .f32 0x7F800000#32
  let main_v4 : FVec F S4x1024x8448 .f32 := broadcastInDim S4x1024x8448 ![] bcast_S_S4x1024x8448 main_cst_0
  let main_v5 : IVec S4x1024x8448 1 := cmpf .oeq main_v1 main_v4
  let main_v6 : IVec S4x1024x8448 1 := ori main_v3 main_v5
  let main_v7 : FVec F S4096x8448 .f32 := (extf .f32 · bitsLt_bf16_f32) main_arg1
  let main_v8 : FVec F S4096x8448 .f32 := Host.absf main_v7
  let main_cst_1 : FVec F S_ .f32 := constant S_ .f32 0x7F7F0000#32
  let main_v9 : FVec F S4096x8448 .f32 := broadcastInDim S4096x8448 ![] bcast_S_S4096x8448 main_cst_1
  let main_v10 : IVec S4096x8448 1 := cmpf .ole main_v8 main_v9
  let main_cst_2 : FVec F S_ .f32 := constant S_ .f32 0x7F800000#32
  let main_v11 : FVec F S4096x8448 .f32 := broadcastInDim S4096x8448 ![] bcast_S_S4096x8448 main_cst_2
  let main_v12 : IVec S4096x8448 1 := cmpf .oeq main_v8 main_v11
  let main_v13 : IVec S4096x8448 1 := ori main_v10 main_v12
  (main_v6, main_v13)
-- ==== Kernel.lean ====
abbrev S4x1024x8448 : Shape := ⟨3, ![4, 1024, 8448]⟩
abbrev S4096x8448 : Shape := ⟨2, ![4096, 8448]⟩
abbrev S1x1 : Shape := ⟨2, ![1, 1]⟩
abbrev S256x8448 : Shape := ⟨2, ![256, 8448]⟩
abbrev S16x8448 : Shape := ⟨2, ![16, 8448]⟩
abbrev S16x16x8448 : Shape := ⟨3, ![16, 16, 8448]⟩
abbrev S1x16x8448 : Shape := ⟨3, ![1, 16, 8448]⟩
abbrev S1 : Shape := ⟨1, ![1]⟩
abbrev S1x1x1 : Shape := ⟨3, ![1, 1, 1]⟩
abbrev S4096x4096 : Shape := ⟨2, ![4096, 4096]⟩
abbrev S4096x1 : Shape := ⟨2, ![4096, 1]⟩
abbrev S512x8448 : Shape := ⟨2, ![512, 8448]⟩
abbrev S1024x8448 : Shape := ⟨2, ![1024, 8448]⟩
abbrev S512x1024 : Shape := ⟨2, ![512, 1024]⟩
abbrev S512x1 : Shape := ⟨2, ![512, 1]⟩
abbrev S512 : Shape := ⟨1, ![512]⟩
abbrev S4x1024x4096 : Shape := ⟨3, ![4, 1024, 4096]⟩
abbrev S4x1024x1 : Shape := ⟨3, ![4, 1024, 1]⟩

abbrev nBuf : Space → Nat
  | .hbm => 12
  | .vmem => 21
  | .smem => 0
  | _ => 0

abbrev bufTy : (tb : Table) → Fin (tcTables nBuf tb) → BufTy
  | .hbm, ⟨0, _⟩ => ⟨S4x1024x8448, .bf16⟩
  | .hbm, ⟨1, _⟩ => ⟨S4096x8448, .bf16⟩
  | .hbm, ⟨2, _⟩ => ⟨S4096x8448, .bf16⟩
  | .hbm, ⟨3, _⟩ => ⟨S1x1, .f32⟩
  | .hbm, ⟨4, _⟩ => ⟨S1x1, .f32⟩
  | .hbm, ⟨5, _⟩ => ⟨S4096x8448, .fp8e4m3⟩
  | .hbm, ⟨6, _⟩ => ⟨S4096x4096, .bf16⟩
  | .hbm, ⟨7, _⟩ => ⟨S4096x8448, .fp8e5m2⟩
  | .hbm, ⟨8, _⟩ => ⟨S4096x1, .f32⟩
  | .hbm, ⟨9, _⟩ => ⟨S4x1024x4096, .bf16⟩
  | .hbm, ⟨10, _⟩ => ⟨S4x1024x8448, .fp8e5m2⟩
  | .hbm, ⟨11, _⟩ => ⟨S4x1024x1, .f32⟩
  | .local _ .vmem, ⟨0, _⟩ => ⟨S256x8448, .bf16⟩
  | .local _ .vmem, ⟨1, _⟩ => ⟨S256x8448, .bf16⟩
  | .local _ .vmem, ⟨2, _⟩ => ⟨S1x1, .f32⟩
  | .local _ .vmem, ⟨3, _⟩ => ⟨S1x1, .f32⟩
  | .local _ .vmem, ⟨4, _⟩ => ⟨S16x8448, .bf16⟩
  | .local _ .vmem, ⟨5, _⟩ => ⟨S1x1, .f32⟩
  | .local _ .vmem, ⟨6, _⟩ => ⟨S256x8448, .bf16⟩
  | .local _ .vmem, ⟨7, _⟩ => ⟨S256x8448, .bf16⟩
  | .local _ .vmem, ⟨8, _⟩ => ⟨S256x8448, .fp8e4m3⟩
  | .local _ .vmem, ⟨9, _⟩ => ⟨S256x8448, .fp8e4m3⟩
  | .local _ .vmem, ⟨10, _⟩ => ⟨S1x1, .f32⟩
  | .local _ .vmem, ⟨11, _⟩ => ⟨S512x8448, .bf16⟩
  | .local _ .vmem, ⟨12, _⟩ => ⟨S512x8448, .bf16⟩
  | .local _ .vmem, ⟨13, _⟩ => ⟨S1024x8448, .fp8e4m3⟩
  | .local _ .vmem, ⟨14, _⟩ => ⟨S1024x8448, .fp8e4m3⟩
  | .local _ .vmem, ⟨15, _⟩ => ⟨S512x1024, .bf16⟩
  | .local _ .vmem, ⟨16, _⟩ => ⟨S512x1024, .bf16⟩
  | .local _ .vmem, ⟨17, _⟩ => ⟨S512x8448, .fp8e5m2⟩
  | .local _ .vmem, ⟨18, _⟩ => ⟨S512x8448, .fp8e5m2⟩
  | .local _ .vmem, ⟨19, _⟩ => ⟨S512x1, .f32⟩
  | .local _ .vmem, ⟨20, _⟩ => ⟨S512x1, .f32⟩
  | _, _ => ⟨S4x1024x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc2_stg3_1 : Ref sig .tc := ⟨.vmem, 16, rfl⟩
abbrev cc2_stg4_0 : Ref sig .tc := ⟨.vmem, 17, rfl⟩
abbrev cc2_stg4_1 : Ref sig .tc := ⟨.vmem, 18, rfl⟩
abbrev cc2_stg5_0 : Ref sig .tc := ⟨.vmem, 19, rfl⟩
abbrev cc2_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem1_1 : DmaSem sig := 6
abbrev cc1_sem2_0 : DmaSem sig := 7
abbrev cc1_sem2_1 : DmaSem sig := 8
abbrev cc2_sem0_0 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17
abbrev cc2_sem5_0 : DmaSem sig := 18
abbrev cc2_sem5_1 : DmaSem sig := 19

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v12 : BitVec 1 := Scalar.cmpi .eq arg0 c15_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x8448 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S256x8448 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x8448 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 4], ![false, false]⟩

def k2_cond1 (i : grid2.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 1 → Memref sig .tc .vmem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S512x8448 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1024x8448 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x8448 .fp8e5m2 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S512x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]
-- ==== ReferenceIdeal.lean ====
abbrev S4x1024x8448 : Shape := ⟨3, ![4, 1024, 8448]⟩
abbrev S4096x8448 : Shape := ⟨2, ![4096, 8448]⟩
abbrev S4096x4096 : Shape := ⟨2, ![4096, 4096]⟩
abbrev S1x1 : Shape := ⟨2, ![1, 1]⟩
abbrev S4096x1 : Shape := ⟨2, ![4096, 1]⟩
abbrev S1x4096x8448 : Shape := ⟨3, ![1, 4096, 8448]⟩
abbrev S1 : Shape := ⟨1, ![1]⟩
abbrev S1x1x1 : Shape := ⟨3, ![1, 1, 1]⟩
abbrev S1x253 : Shape := ⟨2, ![1, 253]⟩
abbrev S4096 : Shape := ⟨1, ![4096]⟩
abbrev S4096x253 : Shape := ⟨2, ![4096, 253]⟩
abbrev S4x1024x4096 : Shape := ⟨3, ![4, 1024, 4096]⟩
abbrev S4x1024x1 : Shape := ⟨3, ![4, 1024, 1]⟩

abbrev nBuf : Space → Nat
  | .hbm => 11
  | .vmem => 7
  | .smem => 0
  | _ => 0

abbrev bufTy : (tb : Table) → Fin (tcTables nBuf tb) → BufTy
  | .hbm, ⟨0, _⟩ => ⟨S4x1024x8448, .bf16⟩
  | .hbm, ⟨1, _⟩ => ⟨S4096x8448, .bf16⟩
  | .hbm, ⟨2, _⟩ => ⟨S4096x8448, .bf16⟩
  | .hbm, ⟨3, _⟩ => ⟨S4096x4096, .bf16⟩
  | .hbm, ⟨4, _⟩ => ⟨S4096x8448, .fp8e4m3⟩
  | .hbm, ⟨5, _⟩ => ⟨S1x1, .f32⟩
  | .hbm, ⟨6, _⟩ => ⟨S4096x8448, .fp8e5m2⟩
  | .hbm, ⟨7, _⟩ => ⟨S4096x1, .f32⟩
  | .hbm, ⟨8, _⟩ => ⟨S4x1024x4096, .bf16⟩
  | .hbm, ⟨9, _⟩ => ⟨S4x1024x8448, .fp8e5m2⟩
  | .hbm, ⟨10, _⟩ => ⟨S4x1024x1, .f32⟩
  | .local _ .vmem, ⟨0, _⟩ => ⟨S4096x8448, .bf16⟩
  | .local _ .vmem, ⟨1, _⟩ => ⟨S4096x8448, .bf16⟩
  | .local _ .vmem, ⟨2, _⟩ => ⟨S4096x4096, .bf16⟩
  | .local _ .vmem, ⟨3, _⟩ => ⟨S4096x8448, .fp8e4m3⟩
  | .local _ .vmem, ⟨4, _⟩ => ⟨S1x1, .f32⟩
  | .local _ .vmem, ⟨5, _⟩ => ⟨S4096x8448, .fp8e5m2⟩
  | .local _ .vmem, ⟨6, _⟩ => ⟨S4096x1, .f32⟩
  | _, _ => ⟨S4x1024x8448, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4096x8448 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8448 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x8448 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x8448 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Amax.lean ====
/- The first kernel call (`amax`) as one region of the program: what each grid point does to the buffers it touches.
   The call scans the weight in sixteen blocks of rows. It keeps, in a scratch buffer, the largest absolute value seen
   so far in each of 16 × 8448 positions; the last point turns the scratch into one scale and one inverse scale. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import Idealize.ShloMosaic.Lib.Exec

@[expose] public section

set_option maxRecDepth 16384

noncomputable section

namespace Cert.Kernel.Amax

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body -/

/-- The condition of the body's first conditional, from the grid coordinates. -/
abbrev isFirst (i : grid0.Coords) : Prop := (Scalar.cmpi .ne (Scalar.extui (Scalar.cmpi .eq (BitVec.ofNat 32 (i 0).val) 0#32)) 0#32) = 1#1

/-- It holds at the first point only. -/
theorem isFirst_iff : ∀ t : Fin cfg0.N, isFirst (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e1 : t.val / 1 % 16 = t.val := by omega
    simp only [isFirst, e0, e1]
    word_cmp
   : ∀ t : Fin grid0.N, isFirst (grid0.coords t) ↔ t.val = 0)

/-- The condition of the body's second conditional. -/
abbrev isLast (i : grid0.Coords) : Prop := k0_cond2 i = 1#1

/-- It holds at the last point only. -/
theorem isLast_iff : ∀ t : Fin cfg0.N, isLast (grid0.coords t) ↔ t.val = 15 :=
  (fun t => by
    have ht : t.val < 16 := Nat.lt_of_lt_of_eq t.isLt N_0
    have e0 : (grid0.coords t 0).val = t.val / 1 % 16 := Pipeline.Grid.coords_val t 0 (by decide) rfl
    have e1 : t.val / 1 % 16 = t.val := by omega
    simp only [isLast, k0_cond2, e0, e1]
    word_cmp
   : ∀ t : Fin grid0.N, isLast (grid0.coords t) ↔ t.val = 15)

/-! ## The body on any buffers, case by case -/

section Runs

variable (c : Dev nD) (i : grid0.Coords)
  (arg1 : Memref sig .tc .vmem S256x8448 .bf16) (harg1 : arg1.IsWhole) (arg2 : Memref sig .tc .vmem S1x1 .f32) (harg2 : arg2.IsWhole)
  (arg3 : Memref sig .tc .vmem S1x1 .f32) (harg3 : arg3.IsWhole) (arg4 : Memref sig .tc .vmem S16x8448 .bf16) (harg4 : arg4.IsWhole)

set_option maxHeartbeats 1000000 in
/-- At the first point (and not the last) the body leaves in the scratch the maximum of the block and of zeros. -/
theorem run_first (hc0 : isFirst i) (hc1 : ¬isLast i) (x0 : Vec F S256x8448 .bf16) (xi1 xi2 : Vec F S1x1 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k0_pay2 x0 k0_pay1)) -∗ K ⟨⟩))
      ⊢ wp frame (wpE (defs₀ (F := F)) Variants.none c none) E (cc0_amax i arg1 harg1 arg2 harg2 arg3 harg3 arg4 harg4) K := by
  simp only [cc0_amax_eq_skeleton]; unfold cc0_amax_skel
  unfold owns
  iintro ⟨⟨%f0, %hf0, H0⟩, ⟨%f1, %hf1, H1⟩, ⟨%f2, %hf2, H2⟩, ⟨%ds0, %fs0, -, HS0⟩, Hk⟩
  obtain rfl := harg1.eq_unread hf0; obtain rfl := harg2.eq_unread hf1; obtain rfl := harg3.eq_unread hf2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _
  isplitr
  swap; · iexact HS0
  ipureintro
  rw [View.read_writes_full, View.readAt_full, hf0]
  unfold run_first.sl.v5 run_first.sl.HS0_1
  rw [View.readCov_full]

set_option maxHeartbeats 1000000 in
/-- At a point that is neither the first nor the last the body folds the block into the scratch. -/
theorem run_middle (hc0 : ¬isFirst i) (hc1 : ¬isLast i) (x0 : Vec F S256x8448 .bf16) (xs : Vec F S16x8448 .bf16) (xi1 xi2 : Vec F S1x1 .f32)
    (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs
        ∗ (iprop(owns (c : Thread nD τ) arg1 fullShare x0 ∗ owns (c : Thread nD τ) arg2 fullShare xi1 ∗ owns (c : Thread nD τ) arg3 fullShare xi2
            ∗ owns (c : Thread nD τ) arg4 fullShare (k0_pay2 x0 xs)) -∗ K ⟨⟩))
      ⊢ wp frame (wpE (defs₀ (F := F)) Variants.none c none) E (cc0_amax i arg1 harg1 arg2 harg2 arg3 harg3 arg4 harg4) K := by
  simp only [cc0_amax_eq_skeleton]; unfold cc0_amax_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2
  obtain rfl := harg4.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _
  isplitr
  swap; · iexact HS0
  ipureintro
  rw [View.read_writes_full, View.readAt_full, View.readAt_full, hf0, hfs0]

set_option maxHeartbeats 1000000 in
/-- At the last point the body folds the block into the scratch, and stores the scale and its inverse. -/
theorem run_last (hc0 : ¬isFirst i) (hc1 : isLast i) (x0 : Vec F S256x8448 .bf16) (xs : Vec F S16x8448 .bf16)
    (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs
        ∗ (iprop(owns (c : Thread nD τ) arg1 fullShare x0
            ∗ owns (c : Thread nD τ) arg2 fullShare (k0_pay6 (k0_pay3 (k0_pay2 x0 xs)) (k0_pay4 (k0_pay2 x0 xs)))
            ∗ owns (c : Thread nD τ) arg3 fullShare (k0_pay7 (k0_pay3 (k0_pay2 x0 xs)) (k0_pay4 (k0_pay2 x0 xs)))
            ∗ owns (c : Thread nD τ) arg4 fullShare (k0_pay2 x0 xs)) -∗ K ⟨⟩))
      ⊢ wp frame (wpE (defs₀ (F := F)) Variants.none c none) E (cc0_amax i arg1 harg1 arg2 harg2 arg3 harg3 arg4 harg4) K := by
  simp only [cc0_amax_eq_skeleton]; unfold cc0_amax_skel
  simp only [k0_part1_eq_skeleton, k0_part2_eq_skeleton]
  unfold owns
  iintro ⟨⟨%f0, %hf0, H0⟩, ⟨%d1, %f1, -, H1⟩, ⟨%d2, %f2, -, H2⟩, ⟨%fs0, %hfs0, HS0⟩, Hk⟩
  obtain rfl := harg1.eq_unread hf0; obtain rfl := harg4.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; swap; · iexact H1
    ipureintro
    rw [View.read_writes_full]
    unfold run_last.sl.r run_last.sl.r_1 run_last.sl.v15 run_last.sl.HS0_1
    rw [View.readCov_full, View.readAt_full, View.readAt_full, hf0, hfs0]
  isplitl [H2]
  · iexists _; isplitr; swap; · iexact H2
    ipureintro
    refine (View.read_writes_full (s := S1x1) _ _ inb_S1x1_S1x1_0_0 _ _).trans ?_
    unfold run_last.sl.r_2 run_last.sl.r run_last.sl.r_1 run_last.sl.v15 run_last.sl.HS0_1
    rw [View.readCov_full, View.readAt_full, View.readAt_full, hf0, hfs0]
  iexists _
  isplitr
  swap; · iexact HS0
  ipureintro
  unfold run_last.sl.HS0_1
  rw [View.read_writes_full, View.readAt_full, View.readAt_full, hf0, hfs0]

end Runs

/-! ## The call's proof data -/

section Data

variable (V : Dev nD → Valuation τ sig (Elt F))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The scratch after point `n`: the maximum so far. -/
def acc (c : Dev nD) : (n : ℕ) → n < cfg0.N → Vec F S16x8448 .bf16
  | 0, h => k0_pay2 (iblk V c 0 ⟨0, h⟩) k0_pay1
  | n + 1, h => k0_pay2 (iblk V c 0 ⟨n + 1, h⟩) (acc c n (Nat.lt_of_succ_lt h))

/-- The scratch buffer. -/
abbrev scr : Memref sig .tc .vmem S16x8448 .bf16 := Memref.whole cc0_scratch0

/-- Between points: the scratch holds the maximum so far (anything, before the first point); everything else the call's
    own, as at its start. -/
def Phi (c : Dev nD) : (n : ℕ) → n ≤ cfg0.N → sProp 𝕄
  | 0, _ => Pipeline.ΦA spec0 c
  | n + 1, hn => iprop(owns (c : Thread nD τ) scr fullShare (acc V c n hn) ∗ ((∃ d, owns (c : Thread nD τ) scr fullShare d) -∗ Pipeline.ΦA spec0 c))

/-- The scratch out of the call's own state, with the way back. -/
theorem PhiA_split (c : Dev nD) :
    (Pipeline.ΦA spec0 c : sProp 𝕄) ⊢ iprop((∃ d, owns (c : Thread nD τ) scr fullShare d) ∗ ((∃ d, owns (c : Thread nD τ) scr fullShare d) -∗ Pipeline.ΦA spec0 c)) := by
  unfold Pipeline.ΦA; rw [scopedRest0_eq]; simp only [scr, owns_whole]
  iintro ⟨⟨Hs, Hr⟩, Hg⟩
  isplitl [Hs]; · iexact Hs
  iintro Hs
  isplitr [Hg]
  · isplitl [Hs]; · iexact Hs
    iexact Hr
  iexact Hg

/-- Before the first step the carried state is the call's own allocation. -/
theorem Phi_zero (c : Dev nD) (n : ℕ) (h : n ≤ cfg0.N) (hz : n = 0) : Phi V c n h = Pipeline.ΦA spec0 c := by subst hz; rfl

/-- After step `n` the scratch holds the accumulator of step `n`. -/
theorem Phi_succ (c : Dev nD) (n : ℕ) (hn : n < cfg0.N) :
    Phi V c (n + 1) hn = iprop(owns (c : Thread nD τ) scr fullShare (acc V c n hn) ∗ ((∃ d, owns (c : Thread nD τ) scr fullShare d) -∗ Pipeline.ΦA spec0 c)) := rfl

/-- Before a later step the scratch holds the accumulator of the step before. -/
theorem Phi_pos (c : Dev nD) (n : ℕ) (h : n ≤ cfg0.N) (hz : n ≠ 0) :
    Phi V c n h = iprop(owns (c : Thread nD τ) scr fullShare (acc V c (n - 1) (by omega)) ∗ ((∃ d, owns (c : Thread nD τ) scr fullShare d) -∗ Pipeline.ΦA spec0 c)) := by
  cases n with
  | zero => exact absurd rfl hz
  | succ n => rfl

/-- The first step starts the accumulator from zeros. -/
theorem acc_zero (c : Dev nD) (t : Fin cfg0.N) (h : t.val = 0) : acc V c t.val t.isLt = k0_pay2 (iblk V c 0 t) k0_pay1 := by
  obtain ⟨n, hn⟩ := t
  obtain rfl : n = 0 := h
  rfl

/-- A later step takes its block into the accumulator of the step before. -/
theorem acc_pos (c : Dev nD) (t : Fin cfg0.N) (h : t.val ≠ 0) :
    acc V c t.val t.isLt = k0_pay2 (iblk V c 0 t) (acc V c (t.val - 1) (Nat.lt_of_le_of_lt (Nat.sub_le _ _) t.isLt)) := by
  obtain ⟨n, hn⟩ := t
  cases n with
  | zero => exact absurd rfl h
  | succ n => rfl

/-- The scale that the maximum `a` gives. -/
abbrev scaleOf (a : Vec F S16x8448 .bf16) : Vec F S1x1 .f32 := k0_pay6 (k0_pay3 a) (k0_pay4 a)
/-- The inverse scale that the maximum `a` gives. -/
abbrev invOf (a : Vec F S16x8448 .bf16) : Vec F S1x1 .f32 := k0_pay7 (k0_pay3 a) (k0_pay4 a)

/-- The call's proof data: its arrays as it finds them, what each point leaves in the windows, the scratch. -/
def dat (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => scaleOf (acc V c t.val t.isLt)
    | ⟨2, _⟩ => invOf (acc V c t.val t.isLt)
  Φ t := Phi V c t.val (Nat.le_of_lt_succ t.isLt)
  q _ := fullShare
  owed _ := 0

/-- An operand starts as the device's memory has it. -/
theorem A_eq (c : Dev nD) (w : Fin cfg0.W) : (dat V c).A w = V c (Proc.devRef .tc (Pipeline.arrRef spec0 w)) := by
  dsimp only [dat]

/-- The carried state before step `t`, by the step's number. -/
theorem Phi_castSucc (c : Dev nD) (t : Fin cfg0.N) : (dat V c).Φ t.castSucc = Phi V c t.val (Nat.le_of_lt t.isLt) := by
  dsimp only [dat]; exact Pipeline.Dat.Φ_castSucc (Phi V c) t

/-- The weight's block is left as it is. -/
theorem after_0 (c : Dev nD) (t : Fin cfg0.N) : (dat V c).after 0 t = iblk V c 0 t := by dsimp only [dat]
/-- The scale's window after a step is the scale of the accumulator. -/
theorem after_1 (c : Dev nD) (t : Fin cfg0.N) : (dat V c).after 1 t = scaleOf (acc V c t.val t.isLt) := by dsimp only [dat]
/-- The inverse's window after a step is the inverse scale of the accumulator. -/
theorem after_2 (c : Dev nD) (t : Fin cfg0.N) : (dat V c).after 2 t = invOf (acc V c t.val t.isLt) := by dsimp only [dat]

/-- The input window's buffer holds its block at every point. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)

/-- Every step uses its block of the weight. -/
theorem live_0 (t : Fin cfg0.N) : cfg0.idle 0 (grid0.coords t) = false := rfl
/-- Only the last step writes the scale. -/
theorem idle_1 : ∀ t : Fin cfg0.N, ¬isLast (grid0.coords t) → cfg0.idle 1 (grid0.coords t) = true := by decide +kernel
/-- Only the last step writes the inverse scale. -/
theorem idle_2 : ∀ t : Fin cfg0.N, ¬isLast (grid0.coords t) → cfg0.idle 2 (grid0.coords t) = true := by decide +kernel
/-- The last step writes the scale. -/
theorem live_1 : ∀ t : Fin cfg0.N, isLast (grid0.coords t) → cfg0.idle 1 (grid0.coords t) = false := by decide +kernel
/-- The last step writes the inverse scale. -/
theorem live_2 : ∀ t : Fin cfg0.N, isLast (grid0.coords t) → cfg0.idle 2 (grid0.coords t) = false := by decide +kernel
/-- The scale is not sent out before the last step. -/
theorem noFlush_1 : ∀ t : Fin cfg0.N, ¬isLast (grid0.coords t) → (cfg0.win 1).flush t = false := by decide +kernel
/-- The inverse scale is not sent out before the last step. -/
theorem noFlush_2 : ∀ t : Fin cfg0.N, ¬isLast (grid0.coords t) → (cfg0.win 2).flush t = false := by decide +kernel

/-! ## The body's obligation at every point -/

/-- The buffer of the weight's block. -/
abbrev ms0 (t : Fin cfg0.N) : Memref sig .tc .vmem S256x8448 .bf16 := win0_0.stage (cfg0.slots t 0)
/-- The buffer of the scale. -/
abbrev ms1 (t : Fin cfg0.N) : Memref sig .tc .vmem S1x1 .f32 := win0_1.stage (cfg0.slots t 1)
/-- The buffer of the inverse scale. -/
abbrev ms2 (t : Fin cfg0.N) : Memref sig .tc .vmem S1x1 .f32 := win0_2.stage (cfg0.slots t 2)

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- What it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 4800000 in
/-- The body at any point: the first, the last, or one between. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms0 t) fullShare ((dat V c).after 0 t) from by
    unfold Dat.leavesExact; rw [live_0 t], after_0]
  have hN : t.val < 16 := lt_of_lt_of_eq t.isLt (show cfg0.N = 16 from N_0)
  by_cases hz : t.val = 0
  · have hl : ¬isLast (grid0.coords t) := fun h => by have := (isLast_iff t).mp h; omega
    rw [Dat.leavesExact_idle (dat V c) 1 t (idle_1 t hl) (noFlush_1 t hl), Dat.leavesExact_idle (dat V c) 2 t (idle_2 t hl) (noFlush_2 t hl),
      Phi_castSucc V c t, Phi_zero V c _ _ hz, acc_zero V c t hz]
    iintro ⟨HP, Ho, ⟨%d0, H0⟩, ⟨%d1, H1⟩, ⟨%d2, H2⟩⟩
    ihave HP' := (PhiA_split (F := F) c) $$ HP
    icases HP' with ⟨HS, Hback⟩
    iapply (run_first c (grid0.coords t) _ _ _ _ _ _ _ _ ((isFirst_iff t).mpr hz) hl (iblk V c 0 t) _ _ Set.univ _)
    isplitl [H0]; · iexact H0
    isplitl [H1]; · iexact H1
    isplitl [H2]; · iexact H2
    isplitl [HS]; · iexact HS
    iintro ⟨H0, H1, H2, HS⟩
    isplitl [HS Hback]
    · isplitl [HS]; · iexact HS
      iexact Hback
    isplitl [Ho]; · iexact Ho
    isplitl [H0]; · iexact H0
    isplitl [H1]; · iexists _; iexact H1
    iexists _; iexact H2
  · have hf : ¬isFirst (grid0.coords t) := fun h => hz ((isFirst_iff t).mp h)
    rw [Phi_castSucc V c t, Phi_pos V c _ _ hz]
    by_cases h1 : t.val = 15
    · have hl : isLast (grid0.coords t) := (isLast_iff t).mpr h1
      rw [show (dat V c).leavesExact 1 t = owns (c : Thread nD τ) (ms1 t) fullShare ((dat V c).after 1 t) from by
          unfold Dat.leavesExact; rw [live_1 t hl],
        show (dat V c).leavesExact 2 t = owns (c : Thread nD τ) (ms2 t) fullShare ((dat V c).after 2 t) from by
          unfold Dat.leavesExact; rw [live_2 t hl], after_1, after_2, acc_pos V c t hz]
      iintro ⟨⟨HS, Hback⟩, Ho, ⟨%d0, H0⟩, ⟨%d1, H1⟩, ⟨%d2, H2⟩⟩
      iapply (run_last c (grid0.coords t) _ _ _ _ _ _ _ _ hf hl (iblk V c 0 t) _ Set.univ _)
      isplitl [H0]; · iexact H0
      isplitl [H1]; · iexists _; iexact H1
      isplitl [H2]; · iexists _; iexact H2
      isplitl [HS]; · iexact HS
      iintro ⟨H0, H1, H2, HS⟩
      isplitl [HS Hback]
      · isplitl [HS]; · iexact HS
        iexact Hback
      isplitl [Ho]; · iexact Ho
      isplitl [H0]; · iexact H0
      isplitl [H1]; · iexact H1
      iexact H2
    · have hl : ¬isLast (grid0.coords t) := fun h => h1 ((isLast_iff t).mp h)
      rw [Dat.leavesExact_idle (dat V c) 1 t (idle_1 t hl) (noFlush_1 t hl), Dat.leavesExact_idle (dat V c) 2 t (idle_2 t hl) (noFlush_2 t hl),
        acc_pos V c t hz]
      iintro ⟨⟨HS, Hback⟩, Ho, ⟨%d0, H0⟩, ⟨%d1, H1⟩, ⟨%d2, H2⟩⟩
      iapply (run_middle c (grid0.coords t) _ _ _ _ _ _ _ _ hf hl (iblk V c 0 t) _ _ _ Set.univ _)
      isplitl [H0]; · iexact H0
      isplitl [H1]; · iexact H1
      isplitl [H2]; · iexact H2
      isplitl [HS]; · iexact HS
      iintro ⟨H0, H1, H2, HS⟩
      isplitl [HS Hback]
      · isplitl [HS]; · iexact HS
        iexact Hback
      isplitl [Ho]; · iexact Ho
      isplitl [H0]; · iexact H0
      isplitl [H1]; · iexists _; iexact H1
      iexists _; iexact H2

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- What the call's start hands over is the state before the first point. -/
theorem hin (c : Dev nD) : (Pipeline.ΦA spec0 c : sProp 𝕄) ⊢ (dat V c).Φ 0 := by
  rw [show (dat V c).Φ 0 = Phi V c 0 (Nat.zero_le _) from rfl, Phi_zero V c 0 _ rfl]

/-- After the last point the scratch's contents are forgotten. -/
theorem hout (c : Dev nD) : (dat V c).Φ (Fin.last cfg0.N) ⊢ (Pipeline.ΦA spec0 c : sProp 𝕄) := by
  rw [show (dat V c).Φ (Fin.last cfg0.N) = Phi V c cfg0.N le_rfl from rfl, Phi_pos V c _ _ (by rw [show cfg0.N = 16 from N_0]; decide)]
  iintro ⟨HS, Hback⟩
  iapply Hback
  iexists _; iexact HS

end Data

end Cert.Kernel.Amax

end
-- ==== Proof.Kernel.Quant.lean ====
/- The second kernel call (`quant_w`) as one region of the program: each grid point multiplies one block of 256 rows of
   the weight by the inverse scale, clips it and stores it as codes. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import Idealize.ShloMosaic.Lib.Exec

@[expose] public section

set_option maxRecDepth 16384

noncomputable section

namespace Cert.Kernel.Quant

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One run of the body -/

set_option maxHeartbeats 1000000 in
/-- The body with its inputs at read contents stores the codes of its block. -/
theorem run (c : Dev nD) (i : grid1.Coords) (arg1 : Memref sig .tc .vmem S1x1 .f32) (harg1 : arg1.IsWhole) (arg2 : Memref sig .tc .vmem S256x8448 .bf16) (harg2 : arg2.IsWhole) (arg3 : Memref sig .tc .vmem S256x8448 .fp8e4m3) (harg3 : arg3.IsWhole)
    (x0 : Vec F S1x1 .f32) (x1 : Vec F S256x8448 .bf16) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k1_pay1 x0 x1)) -∗ K ⟨⟩))
      ⊢ wp frame (wpE (defs₀ (F := F)) Variants.none c none) E (cc1_quant_w i arg1 harg1 arg2 harg2 arg3 harg3) K := by
  simp only [cc1_quant_w_eq_skeleton]; unfold cc1_quant_w_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_full, View.readAt_full, View.readAt_full]

/-! ## The call's proof data -/

section Data

variable (V : Dev nD → Valuation τ sig (Elt F))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The call's proof data: its arrays as it finds them, what each point leaves in the windows. -/
def dat (c : Dev nD) : Dat τ (Elt F) Unit ℕ (UR sig nD τ) ℕ cfg1 c where
  A w := V c (Proc.devRef .tc (Pipeline.arrRef spec1 w))
  after w t := match w with
    | ⟨0, _⟩ => iblk V c 0 t
    | ⟨1, _⟩ => iblk V c 1 t
    | ⟨2, _⟩ => k1_pay1 (iblk V c 0 t) (iblk V c 1 t)
  Φ _ := Pipeline.ΦA spec1 c
  q _ := fullShare
  owed _ := 0

/-- An operand starts as the device's memory has it. -/
theorem A_eq (c : Dev nD) (w : Fin cfg1.W) : (dat V c).A w = V c (Proc.devRef .tc (Pipeline.arrRef spec1 w)) := by
  dsimp only [dat]

/-- The inverse scale is left as it is. -/
theorem after_0 (c : Dev nD) (t : Fin cfg1.N) : (dat V c).after 0 t = iblk V c 0 t := by dsimp only [dat]
/-- The weight's block is left as it is. -/
theorem after_1 (c : Dev nD) (t : Fin cfg1.N) : (dat V c).after 1 t = iblk V c 1 t := by dsimp only [dat]
/-- The codes' window holds the codes of the weight's block. -/
theorem after_2 (c : Dev nD) (t : Fin cfg1.N) : (dat V c).after 2 t = k1_pay1 (iblk V c 0 t) (iblk V c 1 t) := by dsimp only [dat]

/-- Each input window's buffer holds its block at every point. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- A step finds the weight's block in its window. -/
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body's obligation at every point -/

/-- The buffer of the inverse scale. -/
abbrev ms0 (t : Fin cfg1.N) : Memref sig .tc .vmem S1x1 .f32 := win1_0.stage (cfg1.slots t 0)
/-- The buffer of the weight's block. -/
abbrev ms1 (t : Fin cfg1.N) : Memref sig .tc .vmem S256x8448 .bf16 := win1_1.stage (cfg1.slots t 1)
/-- The buffer of the codes' block. -/
abbrev ms2 (t : Fin cfg1.N) : Memref sig .tc .vmem S256x8448 .fp8e4m3 := win1_2.stage (cfg1.slots t 2)

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- What it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t))

/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (run c (grid1.coords t) _ _ _ _ _ _ (iblk V c 0 t) (iblk V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body. -/
theorem defs₀_row (t : Fin cfg1.N) : defs₀ (F := F) .tc cfg1.body (cfg1.bodyArgs t (cfg1.slots t)) = bodyAt1 t := by
  unfold defs₀; rw [Defs.onTc_tc]

/-- The library's body obligation, at every point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

end Data

end Cert.Kernel.Quant

end
-- ==== Proof.Kernel.Dgrad.lean ====
/- The third kernel call (`dgrad`) as one region of the program. Its grid is 8 row blocks of the gradient by 4 row
   blocks of the weight. The first point of each row block quantises the block, which stays in the output buffers for
   the row block's other points; every point multiplies the codes by a block of weight codes. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.Value
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Exec

@[expose] public section

set_option maxRecDepth 16384

noncomputable section

namespace Cert.Kernel.Dgrad

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The condition of the body -/

/-- The condition of the body's conditional: the first weight block. -/
abbrev isFirst (i : grid2.Coords) : Prop := k2_cond1 i = 1#1

/-- It holds at the first of each four points. -/
theorem isFirst_iff : ∀ t : Fin cfg2.N, isFirst (grid2.coords t) ↔ t.val % 4 = 0 := by decide +kernel

/-! ## What a row block of the gradient is turned into -/

/-- The scales of a row block's rows. -/
abbrev scales (x : Vec F S512x8448 .bf16) : Vec F S512x1 .f32 := k2_pay7 (k2_pay4 x) (k2_pay5 x) 4#32
/-- The codes of a row block. -/
abbrev codes (x : Vec F S512x8448 .bf16) : Vec F S512x8448 .fp8e5m2 := k2_pay1 (k2_pay8 (k2_pay3 x) (k2_pay4 x) (k2_pay5 x) 4#32)

/-! ## The two runs of the body -/

section Runs

variable (c : Dev nD) (i : grid2.Coords) (arg2 : Memref sig .tc .vmem S1x1 .f32) (harg2 : arg2.IsWhole) (arg3 : Memref sig .tc .vmem S512x8448 .bf16) (harg3 : arg3.IsWhole) (arg4 : Memref sig .tc .vmem S1024x8448 .fp8e4m3) (harg4 : arg4.IsWhole) (arg5 : Memref sig .tc .vmem S512x1024 .bf16) (harg5 : arg5.IsWhole) (arg6 : Memref sig .tc .vmem S512x8448 .fp8e5m2) (harg6 : arg6.IsWhole) (arg7 : Memref sig .tc .vmem S512x1 .f32) (harg7 : arg7.IsWhole)

set_option maxHeartbeats 2000000 in
/-- At the first weight block the body quantises the gradient's block, then multiplies. -/
theorem run_first (hc0 : isFirst i) (x0 : Vec F S1x1 .f32) (x1 : Vec F S512x8448 .bf16) (x2 : Vec F S1024x8448 .fp8e4m3) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k2_pay2 (codes x1) x2 (scales x1) x0)
            ∗ owns (c : Thread nD τ) arg6 fullShare (codes x1) ∗ owns (c : Thread nD τ) arg7 fullShare (scales x1)) -∗ K ⟨⟩))
      ⊢ wp frame (wpE (defs₀ (F := F)) Variants.none c none) E (cc2_dgrad i arg2 harg2 arg3 harg3 arg4 harg4 arg5 harg5 arg6 harg6 arg7 harg7) K := by
  simp only [cc2_dgrad_eq_skeleton]; unfold cc2_dgrad_skel
  simp only [k2_part1_eq_skeleton, k2_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_full]
    unfold run_first.sl.v3 run_first.sl.v8 run_first.sl.H4_1 run_first.sl.H5_1
    rw [View.readCov_full, View.readCov_full, View.readAt_full, View.readAt_full, hf0, hf2]
    unfold run_first.sl.r_3 run_first.sl.r_2 run_first.sl.r_1 run_first.sl.r
    rw [View.readAt_full, hf1]
  isplitl [H4]
  · iexists _; isplitr; swap; · iexact H4
    ipureintro
    unfold run_first.sl.H4_1
    rw [View.read_writes_full]
    unfold run_first.sl.r_3 run_first.sl.r_2 run_first.sl.r_1 run_first.sl.r
    rw [View.readAt_full, hf1]
  iexists _; isplitr; swap; · iexact H5
  ipureintro
  unfold run_first.sl.H5_1
  rw [View.read_writes_full]
  unfold run_first.sl.r_2 run_first.sl.r_1
  rw [View.readAt_full, hf1]

set_option maxHeartbeats 1000000 in
/-- At the other weight blocks the body multiplies the codes already there. -/
theorem run_rest (hc0 : ¬isFirst i) (x0 : Vec F S1x1 .f32) (x1 : Vec F S512x8448 .bf16) (x2 : Vec F S1024x8448 .fp8e4m3)
    (x4 : Vec F S512x8448 .fp8e5m2) (x5 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ owns (c : Thread nD τ) arg7 fullShare x5
        ∗ (iprop(owns (c : Thread nD τ) arg2 fullShare x0 ∗ owns (c : Thread nD τ) arg3 fullShare x1 ∗ owns (c : Thread nD τ) arg4 fullShare x2
            ∗ owns (c : Thread nD τ) arg5 fullShare (k2_pay2 x4 x2 x5 x0)
            ∗ owns (c : Thread nD τ) arg6 fullShare x4 ∗ owns (c : Thread nD τ) arg7 fullShare x5) -∗ K ⟨⟩))
      ⊢ wp frame (wpE (defs₀ (F := F)) Variants.none c none) E (cc2_dgrad i arg2 harg2 arg3 harg3 arg4 harg4 arg5 harg5 arg6 harg6 arg7 harg7) K := by
  simp only [cc2_dgrad_eq_skeleton]; unfold cc2_dgrad_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg2.eq_unread hf0; obtain rfl := harg3.eq_unread hf1; obtain rfl := harg4.eq_unread hf2
  obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_full, View.readAt_full, View.readAt_full, View.readAt_full, View.readAt_full, hf0, hf2, hf4, hf5]
  isplitl [H4]
  · iexists _; isplitr; · ipureintro; exact harg6.read_unread _
    iexact H4
  iexists _; isplitr; · ipureintro; exact harg7.read_unread _
  iexact H5

end Runs

/-! ## The call's proof data -/

section Data

variable (V : Dev nD → Valuation τ sig (Elt F))

/-- Window `w`'s block at point `t`, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The call's proof data: its arrays as it finds them, what each point leaves in the windows. -/
def dat (c : Dev nD) : Dat τ (Elt F) Unit ℕ (UR sig nD τ) ℕ cfg2 c where
  A w := V c (Proc.devRef .tc (Pipeline.arrRef spec2 w))
  after w t := match w with
    | ⟨0, _⟩ => iblk V c 0 t
    | ⟨1, _⟩ => iblk V c 1 t
    | ⟨2, _⟩ => iblk V c 2 t
    | ⟨3, _⟩ => k2_pay2 (codes (iblk V c 1 t)) (iblk V c 2 t) (scales (iblk V c 1 t)) (iblk V c 0 t)
    | ⟨4, _⟩ => codes (iblk V c 1 t)
    | ⟨5, _⟩ => scales (iblk V c 1 t)
  Φ _ := Pipeline.ΦA spec2 c
  q _ := fullShare
  owed _ := 0

/-- An operand starts as the device's memory has it. -/
theorem A_eq (c : Dev nD) (w : Fin cfg2.W) : (dat V c).A w = V c (Proc.devRef .tc (Pipeline.arrRef spec2 w)) := by
  dsimp only [dat]

/-- The weight's scale is left as it is. -/
theorem after_0 (c : Dev nD) (t : Fin cfg2.N) : (dat V c).after 0 t = iblk V c 0 t := by dsimp only [dat]
/-- The gradient's block is left as it is. -/
theorem after_1 (c : Dev nD) (t : Fin cfg2.N) : (dat V c).after 1 t = iblk V c 1 t := by dsimp only [dat]
/-- The weight codes' block is left as it is. -/
theorem after_2 (c : Dev nD) (t : Fin cfg2.N) : (dat V c).after 2 t = iblk V c 2 t := by dsimp only [dat]
/-- The product's window holds the scaled product of the two blocks of codes. -/
theorem after_3 (c : Dev nD) (t : Fin cfg2.N) :
    (dat V c).after 3 t = k2_pay2 (codes (iblk V c 1 t)) (iblk V c 2 t) (scales (iblk V c 1 t)) (iblk V c 0 t) := by dsimp only [dat]
/-- The codes' window holds the codes of the gradient's block. -/
theorem after_4 (c : Dev nD) (t : Fin cfg2.N) : (dat V c).after 4 t = codes (iblk V c 1 t) := by dsimp only [dat]
/-- The scales' window holds the scales of the gradient's block. -/
theorem after_5 (c : Dev nD) (t : Fin cfg2.N) : (dat V c).after 5 t = scales (iblk V c 1 t) := by dsimp only [dat]

/-- What is fetched for the gradient is its block. -/
theorem fetched_1 (c : Dev nD) (t : Fin cfg2.N) (d) : (dat V c).fetched 1 t d = iblk V c 1 t := by
  unfold Dat.fetched Dat.blockOf iblk; rw [A_eq]; try rfl

/-- Each input window's buffer holds its block at every point. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- A step finds the gradient's block in its window. -/
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- A step finds its block of weight codes in its window. -/
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The first step of a row block writes the codes. -/
theorem live_4 : ∀ t : Fin cfg2.N, isFirst (grid2.coords t) → cfg2.idle 4 (grid2.coords t) = false := by decide +kernel
/-- The first step of a row block writes the scales. -/
theorem live_5 : ∀ t : Fin cfg2.N, isFirst (grid2.coords t) → cfg2.idle 5 (grid2.coords t) = false := by decide +kernel
/-- The other steps of a row block leave the codes alone. -/
theorem idle_4 : ∀ t : Fin cfg2.N, ¬isFirst (grid2.coords t) → cfg2.idle 4 (grid2.coords t) = true := by decide +kernel
/-- The other steps of a row block leave the scales alone. -/
theorem idle_5 : ∀ t : Fin cfg2.N, ¬isFirst (grid2.coords t) → cfg2.idle 5 (grid2.coords t) = true := by decide +kernel
/-- A step that leaves the codes alone is not the first of its row block. -/
theorem idle_pos_4 : ∀ t : Fin cfg2.N, cfg2.idle 4 (grid2.coords t) = true → t.val % 4 ≠ 0 := by decide +kernel
/-- A step that leaves the scales alone is not the first of its row block. -/
theorem idle_pos_5 : ∀ t : Fin cfg2.N, cfg2.idle 5 (grid2.coords t) = true → t.val % 4 ≠ 0 := by decide +kernel

/-- Within a row block the gradient's block does not change. -/
theorem iblk_carry (c : Dev nD) (t : Fin cfg2.N) (ht : t.val % 4 ≠ 0) :
    iblk V c 1 t = iblk V c 1 ⟨t.val - 1, Nat.lt_of_le_of_lt (Nat.sub_le _ _) t.isLt⟩ := by
  have hf : (cfg2.win 1).fetch t = false := by
    rw [← Bool.not_eq_true]; exact fun h => ht ((fetch2_1 t).mp h)
  obtain ⟨_, hix⟩ := (cfg2.win 1).index_eq_of_fetch rfl t hf
  have d := (dat V c).after 1 t
  exact (fetched_1 V c t d).symm.trans (((dat V c).fetched_congr 1 hix rfl d).trans (fetched_1 V c _ d))

/-- The codes' window changes every four steps. -/
theorem fresh_4 (t : Fin cfg2.N) : cfg2.fresh 4 t.val = decide (t.val % 4 = 0) :=
  cfg2.fresh_tab 4 (fun n => decide (n % 4 = 0)) (by decide) (by decide +kernel) t.val (Nat.le_of_lt t.isLt)
/-- The scales' window changes every four steps. -/
theorem fresh_5 (t : Fin cfg2.N) : cfg2.fresh 5 t.val = decide (t.val % 4 = 0) :=
  cfg2.fresh_tab 5 (fun n => decide (n % 4 = 0)) (by decide) (by decide +kernel) t.val (Nat.le_of_lt t.isLt)

/-- After the first weight block the two quantised outputs' buffers hold the row block's codes and scales. -/
theorem before_4 (c : Dev nD) (t : Fin cfg2.N) (ht : t.val % 4 ≠ 0) (d) : (dat V c).before 4 t d = codes (iblk V c 1 t) := by
  rw [(dat V c).before_out_traj 4 rfl (fun _ _ => rfl) (fun t h0 hi _ => by
      rw [after_4, after_4, iblk_carry V c t (idle_pos_4 t hi)]) t.val t rfl d,
    fresh_4, if_neg (by simpa using ht), after_4, ← iblk_carry V c t ht]
/-- A later step of a row block still finds the scales of the gradient's block. -/
theorem before_5 (c : Dev nD) (t : Fin cfg2.N) (ht : t.val % 4 ≠ 0) (d) : (dat V c).before 5 t d = scales (iblk V c 1 t) := by
  rw [(dat V c).before_out_traj 5 rfl (fun _ _ => rfl) (fun t h0 hi _ => by
      rw [after_5, after_5, iblk_carry V c t (idle_pos_5 t hi)]) t.val t rfl d,
    fresh_5, if_neg (by simpa using ht), after_5, ← iblk_carry V c t ht]

/-! ## The body's obligation at every point -/

/-- The buffer of the weight's scale. -/
abbrev ms0 (t : Fin cfg2.N) : Memref sig .tc .vmem S1x1 .f32 := win2_0.stage (cfg2.slots t 0)
/-- The buffer of the gradient's block. -/
abbrev ms1 (t : Fin cfg2.N) : Memref sig .tc .vmem S512x8448 .bf16 := win2_1.stage (cfg2.slots t 1)
/-- The buffer of the weight codes' block. -/
abbrev ms2 (t : Fin cfg2.N) : Memref sig .tc .vmem S1024x8448 .fp8e4m3 := win2_2.stage (cfg2.slots t 2)
/-- The buffer of the product's block. -/
abbrev ms3 (t : Fin cfg2.N) : Memref sig .tc .vmem S512x1024 .bf16 := win2_3.stage (cfg2.slots t 3)
/-- The buffer of the gradient codes' block. -/
abbrev ms4 (t : Fin cfg2.N) : Memref sig .tc .vmem S512x8448 .fp8e5m2 := win2_4.stage (cfg2.slots t 4)
/-- The buffer of the gradient scales' block. -/
abbrev ms5 (t : Fin cfg2.N) : Memref sig .tc .vmem S512x1 .f32 := win2_5.stage (cfg2.slots t 5)

/-- What the body is called with at point `t`. -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- What it returns. -/
def bodyPost (c : Dev nD) (t : Fin cfg2.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ (dat V c).leavesExact 4 t ∗ (dat V c).leavesExact 5 t)

/-- Holding the row block's codes is enough of an answer for their window at any point. -/
theorem leaves_4 (c : Dev nD) (t : Fin cfg2.N) :
    owns (c : Thread nD τ) (ms4 t) fullShare (codes (iblk V c 1 t)) ⊢ (dat V c).leavesExact 4 t := by
  unfold Dat.leavesExact
  cases hi : cfg2.idle 4 (cfg2.grid.coords t)
  · simp only [after_4]; exact .rfl
  · cases hf : (cfg2.win 4).flush t
    · simp only [before_4 V c t (idle_pos_4 t hi)]
      iintro H
      iexists (codes (iblk V c 1 t)); iexact H
    · simp only [after_4]; exact .rfl
/-- Likewise the scales. -/
theorem leaves_5 (c : Dev nD) (t : Fin cfg2.N) :
    owns (c : Thread nD τ) (ms5 t) fullShare (scales (iblk V c 1 t)) ⊢ (dat V c).leavesExact 5 t := by
  unfold Dat.leavesExact
  cases hi : cfg2.idle 5 (cfg2.grid.coords t)
  · simp only [after_5]; exact .rfl
  · cases hf : (cfg2.win 5).flush t
    · simp only [before_5 V c t (idle_pos_5 t hi)]
      iintro H
      iexists (scales (iblk V c 1 t)); iexact H
    · simp only [after_5]; exact .rfl

set_option maxHeartbeats 1600000 in
/-- The body at any point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  by_cases hz : t.val % 4 = 0
  · iintro ⟨HΦ, Ho, ⟨%d0, H0⟩, ⟨%d1, H1⟩, ⟨%d2, H2⟩, ⟨%d3, H3⟩, ⟨%d4, H4⟩, ⟨%d5, H5⟩⟩
    iapply (run_first c (grid2.coords t) _ _ _ _ _ _ _ _ _ _ _ _ ((isFirst_iff t).mpr hz) (iblk V c 0 t) (iblk V c 1 t) (iblk V c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    ihave H4 := (leaves_4 V c t) $$ H4
    ihave H5 := (leaves_5 V c t) $$ H5
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before_4 V c t hz, before_5 V c t hz]
    iintro ⟨HΦ, Ho, ⟨%d0, H0⟩, ⟨%d1, H1⟩, ⟨%d2, H2⟩, ⟨%d3, H3⟩, ⟨%d4, H4⟩, ⟨%d5, H5⟩⟩
    iapply (run_rest c (grid2.coords t) _ _ _ _ _ _ _ _ _ _ _ _ (fun h => hz ((isFirst_iff t).mp h)) (iblk V c 0 t) (iblk V c 1 t) (iblk V c 2 t)
      (codes (iblk V c 1 t)) (scales (iblk V c 1 t)) Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    ihave H4 := (leaves_4 V c t) $$ H4
    ihave H5 := (leaves_5 V c t) $$ H5
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body. -/
theorem defs₀_row (t : Fin cfg2.N) : defs₀ (F := F) .tc cfg2.body (cfg2.bodyArgs t (cfg2.slots t)) = bodyAt2 t := by
  unfold defs₀; rw [Defs.onTc_tc]

/-- The library's body obligation, at every point. -/
theorem body_obligation (c : Dev nD) : BodyObligation (dat V c) (defs₀ (F := F)) Variants.none () Set.univ := fun t => by
  rw [bigSep_W2, bigSep_W2, defs₀_row]
  exact triple_restated (sound_body V c t) rfl .rfl fun _ => .rfl

end Data

end Cert.Kernel.Dgrad

end
-- ==== Proof.Kernel.Run.lean ====
/- The whole program's run: a reshape on the host, the three calls, three reshapes on the host. From one record per call
   (what each call leaves in its arrays) the program's run is put together: it ends, both arguments are as they were, every
   semaphore counter is at zero, and each result holds what the chain of contents `V5` says. -/
module

public import proofs.«01_k».proof.Proof.Kernel.Amax
public import proofs.«01_k».proof.Proof.Kernel.Quant
public import proofs.«01_k».proof.Proof.Kernel.Dgrad
public import proofs.«01_k».proof.Proof.Gen.Kernel.Regions
public import Idealize.ShloMosaic.Lib.Pipeline.RegionArrays

@[expose] public section

noncomputable section

namespace Cert.Kernel.Run

open Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between the calls -/

/-- The buffers after the first call: the scale and its inverse written. -/
def W2 (c : Dev nD) : Valuation τ sig (Elt F) :=
  Function.update (Function.update (V1 m c) main_v1_0 ((Amax.dat (V1 m) c).arrAt 1 cfg0.N)) main_v1_1 ((Amax.dat (V1 m) c).arrAt 2 cfg0.N)
/-- The buffers after the second call: the weight's codes written. -/
def W3 (c : Dev nD) : Valuation τ sig (Elt F) :=
  Function.update (W2 m c) main_v2 ((Quant.dat (W2 m) c).arrAt 2 cfg1.N)
/-- The buffers after the third call: the product, the gradient's codes and their scales written. -/
def W4 (c : Dev nD) : Valuation τ sig (Elt F) :=
  Function.update (Function.update (Function.update (W3 m c) main_v3_0 ((Dgrad.dat (W3 m) c).arrAt 3 cfg2.N))
    main_v3_1 ((Dgrad.dat (W3 m) c).arrAt 4 cfg2.N)) main_v3_2 ((Dgrad.dat (W3 m) c).arrAt 5 cfg2.N)

/-- What each call leaves in the arrays it may change. -/
def outs : Outs (F := F) := fun n r c => if n = 2 then W2 m c r else if n = 3 then W3 m c r else W4 m c r

/-- Different arrays are different device arrays. -/
theorem ne_devRef {r r' : Ref sig .tc} (h : r ≠ r') : (Proc.devRef .tc r : DevRef τ sig) ≠ Proc.devRef .tc r' := StableHlo.devRef_ne_of_ne h

/-- The memory after the first call, as the run states it, is `W2`. -/
theorem V2_eq (c : Dev nD) : V2 m (outs m) c = W2 m c := by
  have h0 : outs m 2 main_v1_0 c = (Amax.dat (V1 m) c).arrAt 1 cfg0.N := by
    unfold outs; rw [if_pos rfl]; unfold W2
    rw [Function.update_of_ne (ne_devRef (by decide)), Function.update_self]
  have h1 : outs m 2 main_v1_1 c = (Amax.dat (V1 m) c).arrAt 2 cfg0.N := by
    unfold outs; rw [if_pos rfl]; unfold W2
    rw [Function.update_self]
  unfold V2 W2; rw [h0, h1]

/-- The memory after the second call, as the run states it, is `W3`. -/
theorem V3_eq (c : Dev nD) : V3 m (outs m) c = W3 m c := by
  have h0 : outs m 3 main_v2 c = (Quant.dat (W2 m) c).arrAt 2 cfg1.N := by
    unfold outs; rw [if_neg (by decide), if_pos rfl]; unfold W3
    rw [Function.update_self]
  unfold V3 W3; rw [h0, V2_eq]

/-- The memory after the third call, as the run states it, is `W4`. -/
theorem V4_eq (c : Dev nD) : V4 m (outs m) c = W4 m c := by
  have h0 : outs m 4 main_v3_0 c = (Dgrad.dat (W3 m) c).arrAt 3 cfg2.N := by
    unfold outs; rw [if_neg (by decide), if_neg (by decide)]; unfold W4
    rw [Function.update_of_ne (ne_devRef (by decide)), Function.update_of_ne (ne_devRef (by decide)), Function.update_self]
  have h1 : outs m 4 main_v3_1 c = (Dgrad.dat (W3 m) c).arrAt 4 cfg2.N := by
    unfold outs; rw [if_neg (by decide), if_neg (by decide)]; unfold W4
    rw [Function.update_of_ne (ne_devRef (by decide)), Function.update_self]
  have h2 : outs m 4 main_v3_2 c = (Dgrad.dat (W3 m) c).arrAt 5 cfg2.N := by
    unfold outs; rw [if_neg (by decide), if_neg (by decide)]; unfold W4
    rw [Function.update_self]
  unfold V4 W4; rw [h0, h1, h2, V3_eq]

/-- The first call changes only the scale and the inverse scale. -/
theorem W2_of (c : Dev nD) (r : Ref sig .tc) (h : r ∉ ([main_v1_0, main_v1_1] : List (Ref sig .tc))) : W2 m c r = V1 m c r := by
  rw [← V2_eq]; exact V2_of m (outs m) c r h
/-- The second call changes only the weight's codes. -/
theorem W3_of (c : Dev nD) (r : Ref sig .tc) (h : r ∉ ([main_v2] : List (Ref sig .tc))) : W3 m c r = W2 m c r := by
  rw [← V3_eq, ← V2_eq]; exact V3_of m (outs m) c r h
/-- The third call changes only its three results. -/
theorem W4_of (c : Dev nD) (r : Ref sig .tc) (h : r ∉ ([main_v3_0, main_v3_1, main_v3_2] : List (Ref sig .tc))) : W4 m c r = W3 m c r := by
  rw [← V4_eq, ← V3_eq]; exact V4_of m (outs m) c r h
/-- The scale is what the first call leaves in its second operand. -/
theorem W2_scale (c : Dev nD) : W2 m c main_v1_0 = (Amax.dat (V1 m) c).arrAt 1 cfg0.N := by
  unfold W2; rw [Function.update_of_ne (ne_devRef (by decide)), Function.update_self]
/-- The inverse scale is what the first call leaves in its third operand. -/
theorem W2_inv (c : Dev nD) : W2 m c main_v1_1 = (Amax.dat (V1 m) c).arrAt 2 cfg0.N := by
  unfold W2; rw [Function.update_self]
/-- The weight's codes are what the second call leaves in its third operand. -/
theorem W3_codes (c : Dev nD) : W3 m c main_v2 = (Quant.dat (W2 m) c).arrAt 2 cfg1.N := by
  unfold W3; rw [Function.update_self]
/-- The third call leaves the weight's codes as they are. -/
theorem W4_codes (c : Dev nD) : W4 m c main_v2 = W3 m c main_v2 :=
  W4_of m c main_v2 (by decide)
/-- The product is what the third call leaves in its fourth operand. -/
theorem W4_dx (c : Dev nD) : W4 m c main_v3_0 = (Dgrad.dat (W3 m) c).arrAt 3 cfg2.N := by
  unfold W4; rw [Function.update_of_ne (ne_devRef (by decide)), Function.update_of_ne (ne_devRef (by decide)), Function.update_self]
/-- The gradient's codes are what the third call leaves in its fifth operand. -/
theorem W4_dyc (c : Dev nD) : W4 m c main_v3_1 = (Dgrad.dat (W3 m) c).arrAt 4 cfg2.N := by
  unfold W4; rw [Function.update_of_ne (ne_devRef (by decide)), Function.update_self]
/-- The gradient's scales are what the third call leaves in its sixth operand. -/
theorem W4_dys (c : Dev nD) : W4 m c main_v3_2 = (Dgrad.dat (W3 m) c).arrAt 5 cfg2.N := by
  unfold W4; rw [Function.update_self]

/-! ## The calls' records -/

/-- The proof data of the three calls. -/
def pdats (p : Fin 3) (c : Dev nD) : Dat τ (Elt F) Unit ℕ (UR sig nD τ) ℕ (cfgs p) c :=
  match p with
  | ⟨0, _⟩ => Amax.dat (V1 m) c
  | ⟨1, _⟩ => Quant.dat (W2 m) c
  | ⟨2, _⟩ => Dgrad.dat (W3 m) c

/-- No core owes another anything: no level is assigned. -/
abbrev L : GSem nD τ sig → Finset Unit := fun _ => ∅
/-- No semaphore needs a level. -/
abbrev lv : GSem nD τ sig → Unit → ℕ := fun _ _ => 0

/-- What rides beside the buffers: the generator register, and a ledger that owes nothing. -/
def rest (c : Dev nD) : sProp 𝕄 := iprop((∃ r, prngReg c r) ∗ ∃ W, owes (c : Thread nD τ) (0 : CellTallies nD τ sig Unit) W)

/-- The pinned configuration of call `p`. -/
abbrev cfgP (p : Fin 3) := Pipeline.pin (pcfgs (F := F)) adm p

set_option backward.isDefEq.respectTransparency.types false in
/-- One call as a segment: it is entered from every buffer held at `V` and left with every buffer held at `V'`, given that
    its arrays end at `V'` and that nothing else differs. -/
def region (p : Fin 3) (kit : Pipeline.LaunchFacts (nD := nD) (τ := τ) cfgs p) (V V' : Dev nD → Valuation τ sig (Elt F))
    (hbody : ∀ c, Pipeline.BodyObligationLoose (pdats m p c) (defs₀ (F := F)) Variants.none () Set.univ)
    (howed : ∀ c t, (pdats m p c).owed t = 0)
    (hrec : ∀ c t, (pdats m p c).recorded t = Set.univ)
    (hshare : ∀ c w, (pdats m p c).share w = fullShare)
    (hW : ∀ c w, (pdats m p c).arrAt w 0 = V c (Proc.devRef .tc (Pipeline.arrRef (cfgP (F := F) p).spec w)))
    (hW' : ∀ c w, (pdats m p c).arrAt w (cfgP (F := F) p).N = V' c (Proc.devRef .tc (Pipeline.arrRef (cfgP (F := F) p).spec w)))
    (hkeep : ∀ c b, b ∉ Pipeline.arrRefs (τ := τ) (cfgs p).spec → V c b = V' c b)
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄)) :
    RegionSeg (pcfgs (F := F)) adm (pdats m) () defs₀ Variants.none L lv p where
  win := kit.win.to₀
  block_pos := kit.block_pos
  stage_whole := kit.stage_whole
  K := PEmpty
  osem := fun k => k.elim
  ho := Pipeline.OwnSemFacts.none _
  hbody := hbody
  hwaits := Pipeline.hwaits_of_owed_zero _ _ _ _ L lv p howed
  pre c := iprop(StableHlo.held (c : Thread nD τ) (Pipeline.ucRefs τ sig) (V c) ∗ rest c)
  post c := iprop(StableHlo.held (c : Thread nD τ) (Pipeline.ucRefs τ sig) (V' c) ∗ rest c)
  X c := iprop(∃ r, prngReg c r)
  Y c := iprop(∃ r, prngReg c r)
  Z c := StableHlo.held (c : Thread nD τ) (Pipeline.ucRefs τ sig \ Pipeline.arrRefs (cfgs p).spec) (V c)
  hentry c := by
    rw [StableHlo.held_sub_split (c := (c : Thread nD τ)) (Pipeline.arrRefs_sub_ucRefs (τ := τ) (cfgs p).spec kit.win.arr_unscoped) (V c),
      Pipeline.arrays_held (pcfgs (F := F)) adm (pdats m) p kit.toP c (hshare c) ((pdats m p c).arrAt · 0) (V c) (hW c)]
    unfold rest
    iintro ⟨⟨⟨Ha, Hz⟩, ⟨Hg, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun x _ => Or.inl (by rw [hrec]; exact Set.mem_univ x)
      iexact HO
    isplitl [Hg]; · iexact Hg
    iexact Hz
  hin c := by
    refine BIBase.Entails.trans ?_ (hin c)
    unfold Pipeline.ΦA
    iintro ⟨Hg, -, Hr⟩
    isplitl [Hr]; · iexact Hr
    iexact Hg
  hout c := by
    refine BIBase.Entails.trans (hout c) ?_
    unfold Pipeline.ΦA
    rw [Pipeline.ownSems0_none]
    iintro ⟨Hr, Hg⟩
    isplitl [Hg]; · iexact Hg
    isplitr; · iempintro
    iexact Hr
  hexit c := by
    rw [StableHlo.held_sub_split (c := (c : Thread nD τ)) (Pipeline.arrRefs_sub_ucRefs (τ := τ) (cfgs p).spec kit.win.arr_unscoped) (V' c),
      Pipeline.arrays_held (pcfgs (F := F)) adm (pdats m) p kit.toP c (hshare c) ((pdats m p c).arrAt · (cfgP (F := F) p).N) (V' c) (hW' c),
      StableHlo.held_congr (c := (c : Thread nD τ)) (S := Pipeline.ucRefs τ sig \ Pipeline.arrRefs (cfgs p).spec) (V := V c) (V' := V' c)
        (fun b hb => hkeep c b (Finset.mem_sdiff.mp hb).2)]
    unfold rest
    iintro ⟨Ha, HO, Hg, Hz⟩
    imodintro
    isplitl [Ha Hz]
    · isplitl [Ha]; · iexact Ha
      iexact Hz
    isplitl [Hg]; · iexact Hg
    unfold Pipeline.Dat.owesAt Pipeline.owesWithin
    rw [howed]
    icases HO with ⟨%W, -, HO⟩; iexists W; iexact HO

/-- The first call's segment. -/
def R0 : RegionSeg (pcfgs (F := F)) adm (pdats m) () defs₀ Variants.none L lv 0 :=
  region m 0 launch0 (V1 m) (W2 m) (fun c => (Amax.body_obligation (V1 m) c).loose) (fun _ _ => rfl) (fun _ _ => rfl)
    (fun c w => (Amax.dat (V1 m) c).share_full (fun _ => rfl) w)
    (fun c w => Amax.A_eq (V1 m) c w)
    (fun c w => match w with
      | ⟨0, _⟩ => ((Amax.dat (V1 m) c).arrAt_in 0 rfl _).trans (W2_of m c main_arg1 (by decide)).symm
      | ⟨1, _⟩ => (W2_scale m c).symm
      | ⟨2, _⟩ => (W2_inv m c).symm)
    (fun c b hb => by
      unfold W2
      rw [Function.update_of_ne (fun h : b = Proc.devRef .tc main_v1_1 => hb (by rw [h]; exact Finset.mem_image_of_mem (fun w => Proc.devRef .tc (Pipeline.arrRef spec0 w)) (Finset.mem_univ 2))),
        Function.update_of_ne (fun h : b = Proc.devRef .tc main_v1_0 => hb (by rw [h]; exact Finset.mem_image_of_mem (fun w => Proc.devRef .tc (Pipeline.arrRef spec0 w)) (Finset.mem_univ 1)))])
    (fun c => Amax.hin (V1 m) c) (fun c => Amax.hout (V1 m) c)

/-- The second call's segment. -/
def R1 : RegionSeg (pcfgs (F := F)) adm (pdats m) () defs₀ Variants.none L lv 1 :=
  region m 1 launch1 (W2 m) (W3 m) (fun c => (Quant.body_obligation (W2 m) c).loose) (fun _ _ => rfl) (fun _ _ => rfl)
    (fun c w => (Quant.dat (W2 m) c).share_full (fun _ => rfl) w)
    (fun c w => Quant.A_eq (W2 m) c w)
    (fun c w => match w with
      | ⟨0, _⟩ => ((Quant.dat (W2 m) c).arrAt_in 0 rfl _).trans (W3_of m c main_v1_1 (by decide)).symm
      | ⟨1, _⟩ => ((Quant.dat (W2 m) c).arrAt_in 1 rfl _).trans (W3_of m c main_arg1 (by decide)).symm
      | ⟨2, _⟩ => (W3_codes m c).symm)
    (fun c b hb => by
      unfold W3
      rw [Function.update_of_ne (fun h : b = Proc.devRef .tc main_v2 => hb (by rw [h]; exact Finset.mem_image_of_mem (fun w => Proc.devRef .tc (Pipeline.arrRef spec1 w)) (Finset.mem_univ 2)))])
    (fun c => .rfl) (fun c => .rfl)

set_option maxRecDepth 20000 in
/-- The third call's segment. -/
def R2 : RegionSeg (pcfgs (F := F)) adm (pdats m) () defs₀ Variants.none L lv 2 :=
  region m 2 launch2 (W3 m) (W4 m) (fun c => (Dgrad.body_obligation (W3 m) c).loose) (fun _ _ => rfl) (fun _ _ => rfl)
    (fun c w => (Dgrad.dat (W3 m) c).share_full (fun _ => rfl) w)
    (fun c w => Dgrad.A_eq (W3 m) c w)
    (fun c w => match w with
      | ⟨0, _⟩ => ((Dgrad.dat (W3 m) c).arrAt_in 0 rfl _).trans (W4_of m c main_v1_0 (by decide)).symm
      | ⟨1, _⟩ => ((Dgrad.dat (W3 m) c).arrAt_in 1 rfl _).trans (W4_of m c main_v0 (by decide)).symm
      | ⟨2, _⟩ => ((Dgrad.dat (W3 m) c).arrAt_in 2 rfl _).trans (W4_codes m c).symm
      | ⟨3, _⟩ => (W4_dx m c).symm
      | ⟨4, _⟩ => (W4_dyc m c).symm
      | ⟨5, _⟩ => (W4_dys m c).symm)
    (fun c b hb => by
      unfold W4
      rw [Function.update_of_ne (fun h : b = Proc.devRef .tc main_v3_2 => hb (by rw [h]; exact Finset.mem_image_of_mem (fun w => Proc.devRef .tc (Pipeline.arrRef spec2 w)) (Finset.mem_univ 5))),
        Function.update_of_ne (fun h : b = Proc.devRef .tc main_v3_1 => hb (by rw [h]; exact Finset.mem_image_of_mem (fun w => Proc.devRef .tc (Pipeline.arrRef spec2 w)) (Finset.mem_univ 4))),
        Function.update_of_ne (fun h : b = Proc.devRef .tc main_v3_0 => hb (by rw [h]; exact Finset.mem_image_of_mem (fun w => Proc.devRef .tc (Pipeline.arrRef spec2 w)) (Finset.mem_univ 3)))])
    (fun c => .rfl) (fun c => .rfl)

/-! ## The run -/

/-- The buffers at the end. -/
abbrev Vend (c : Dev nD) : Valuation τ sig (Elt F) := V5 m (outs m) c

set_option backward.isDefEq.respectTransparency.types false in
/-- Running the program from any memory with zero counters ends with each argument as launched, each result at `Vend`, and
    every semaphore counter at zero. -/
theorem run :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v4) = Vend m c main_v4
      ∧ r.2.mem ((c.tc : Thread nD τ).loc main_v2) = Vend m c main_v2
      ∧ r.2.mem ((c.tc : Thread nD τ).loc main_v1_0) = Vend m c main_v1_0
      ∧ r.2.mem ((c.tc : Thread nD τ).loc main_v5) = Vend m c main_v5
      ∧ r.2.mem ((c.tc : Thread nD τ).loc main_v6) = Vend m c main_v6)
      ∧ r.2.sem = fun _ => 0) := by
  refine Pipeline.θ_run_regions_kit_dev_sems (pcfgs (F := F)) adm (pdats m) () cellOf_inj emb₁ defs₀ Variants.none L lv m ρ main
    (segs m (outs m) Variants.none L lv (fun _ => rest) () (pdats m) (R0 m) (R1 m) (R2 m))
    (fun c Q => by
      rewrite [main_chain c, Seg.run_eq_chain,
        show (segs m (outs m) Variants.none L lv (fun _ => rest) () (pdats m) (R0 m) (R1 m) (R2 m) c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) 0 (fun _ _ => rfl)
    (fun _ => iprop(emp)) (initOf (Pipeline.cells (nD := nD) (τ := τ) cfgs cellOf_inj) (Pipeline.launchToks (nD := nD) (τ := τ) cfgs cellOf_inj))
    (by
      iintro Hu; imodintro; isplitl [Hu]
      · iapply (show (ownU _ : sProp 𝕄) ⊢ BI.own (emb₁ (initOf (Pipeline.cells (nD := nD) (τ := τ) cfgs cellOf_inj) (Pipeline.launchToks (nD := nD) (τ := τ) cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (Vend m c))
    (hch := fun c => ⟨.rfl, .rfl, .rfl, .rfl, by
      show (iprop(StableHlo.held (c : Thread nD τ) (Pipeline.ucRefs τ sig) (W4 m c) ∗ rest c) : sProp 𝕄)
        ⊢ iprop(StableHlo.held (c : Thread nD τ) (Pipeline.ucRefs τ sig) (V4 m (outs m) c) ∗ rest c)
      rw [V4_eq], sep_mono .rfl (by unfold rest; iintro ⟨-, HO⟩; iexact HO)⟩)
    (hinit := ?_) (QY := fun c s => (s.mem ((c.tc : Thread nD τ).loc main_arg0) = m ((c.tc : Thread nD τ).loc main_arg0)
      ∧ s.mem ((c.tc : Thread nD τ).loc main_arg1) = m ((c.tc : Thread nD τ).loc main_arg1))
      ∧ s.mem ((c.tc : Thread nD τ).loc main_v4) = Vend m c main_v4
      ∧ s.mem ((c.tc : Thread nD τ).loc main_v2) = Vend m c main_v2
      ∧ s.mem ((c.tc : Thread nD τ).loc main_v1_0) = Vend m c main_v1_0
      ∧ s.mem ((c.tc : Thread nD τ).loc main_v5) = Vend m c main_v5
      ∧ s.mem ((c.tc : Thread nD τ).loc main_v6) = Vend m c main_v6)
    (hfin := fun c s' => ?_) (hQ := fun _ h hz => ⟨h, funext fun g => hz g (.inr (regions_no_unscoped g.2))⟩)
  · iintro ⟨H, -⟩
    imodintro
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (bigSep Finset.univ fun c : Dev nD => iprop(StableHlo.held (c : Thread nD τ) (Pipeline.ucRefs τ sig) (V0 m c) ∗ rest c) : sProp 𝕄) := by
      refine bigSep_mono fun c _ => ?_
      rw [← Pipeline.unscopedBufs_held (Ix := Unit) (Name := ℕ) (U := UR sig nD τ) (Lvl := ℕ) c (V0 m c)]
      unfold rest
      change BIBase.Entails (PROP := sProp 𝕄) _ _
      iintro ⟨Hb, -, HO, -, Hg, -⟩
      isplitl [Hb]; · iexact Hb
      isplitl [Hg]; · iexists _; iexact Hg
      iexists _; iexact HO
    iapply hsplit
    iexact H
  · unfold StableHlo.held
    iintro ⟨Hh, HSI⟩
    ihave Hr := (pointsTo_read_all (Pipeline.ucRefs τ sig) (fun b => ((c : Thread nD τ).1, b)) (Vend m c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c)⟩,
        h (Proc.devRef .tc main_v4) (Finset.mem_filter.mpr ⟨StableHlo.devRef_mem_tcRefs main_v4, by decide⟩),
        h (Proc.devRef .tc main_v2) (Finset.mem_filter.mpr ⟨StableHlo.devRef_mem_tcRefs main_v2, by decide⟩),
        h (Proc.devRef .tc main_v1_0) (Finset.mem_filter.mpr ⟨StableHlo.devRef_mem_tcRefs main_v1_0, by decide⟩),
        h (Proc.devRef .tc main_v5) (Finset.mem_filter.mpr ⟨StableHlo.devRef_mem_tcRefs main_v5, by decide⟩),
        h (Proc.devRef .tc main_v6) (Finset.mem_filter.mpr ⟨StableHlo.devRef_mem_tcRefs main_v6, by decide⟩)⟩
    · iexact HSI

/-- The frame alone: the run ends with the arguments as launched and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).1, h.2⟩) (run m ρ)

end Cert.Kernel.Run

end
-- ==== Proof.KernelIdeal.Amax.lean ====
/- The first kernel call (`amax`) as one region of the program: what each grid point does to the buffers it touches.
   The call scans the weight in sixteen blocks of rows. It keeps, in a scratch buffer, the largest absolute value seen
   so far in each of 16 × 8448 positions; the last point turns the scratch into one scale and one inverse scale. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import Idealize.ShloMosaic.Lib.Exec

@[expose] public section

set_option maxRecDepth 16384

noncomputable section

namespace Cert.KernelIdeal.Amax

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body -/

/-- The condition of the body's first conditional, from the grid coordinates. -/
abbrev isFirst (i : grid0.Coords) : Prop := (Scalar.cmpi .ne (Scalar.extui (Scalar.cmpi .eq (BitVec.ofNat 32 (i 0).val) 0#32)) 0#32) = 1#1

/-- It holds at the first point only. -/
theorem isFirst_iff : ∀ t : Fin cfg0.N, isFirst (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    have e1 : t.val / 1 % 16 = t.val := by omega
    simp only [isFirst, e0, e1]
    word_cmp
   : ∀ t : Fin grid0.N, isFirst (grid0.coords t) ↔ t.val = 0)

/-- The condition of the body's second conditional. -/
abbrev isLast (i : grid0.Coords) : Prop := k0_cond2 i = 1#1

/-- It holds at the last point only. -/
theorem isLast_iff : ∀ t : Fin cfg0.N, isLast (grid0.coords t) ↔ t.val = 15 :=
  (fun t => by
    have ht : t.val < 16 := Nat.lt_of_lt_of_eq t.isLt N_0
    have e0 : (grid0.coords t 0).val = t.val / 1 % 16 := Pipeline.Grid.coords_val t 0 (by decide) rfl
    have e1 : t.val / 1 % 16 = t.val := by omega
    simp only [isLast, k0_cond2, e0, e1]
    word_cmp
   : ∀ t : Fin grid0.N, isLast (grid0.coords t) ↔ t.val = 15)

/-! ## The body on any buffers, case by case -/

section Runs

variable (c : Dev nD) (i : grid0.Coords)
  (arg1 : Memref sig .tc .vmem S256x8448 .bf16) (harg1 : arg1.IsWhole) (arg2 : Memref sig .tc .vmem S1x1 .f32) (harg2 : arg2.IsWhole)
  (arg3 : Memref sig .tc .vmem S1x1 .f32) (harg3 : arg3.IsWhole) (arg4 : Memref sig .tc .vmem S16x8448 .bf16) (harg4 : arg4.IsWhole)

set_option maxHeartbeats 1000000 in
/-- At the first point (and not the last) the body leaves in the scratch the maximum of the block and of zeros. -/
theorem run_first (hc0 : isFirst i) (hc1 : ¬isLast i) (x0 : Vec F S256x8448 .bf16) (xi1 xi2 : Vec F S1x1 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k0_pay2 x0 k0_pay1)) -∗ K ⟨⟩))
      ⊢ wp frame (wpE (defs₀ (F := F)) Variants.none c none) E (cc0_amax i arg1 harg1 arg2 harg2 arg3 harg3 arg4 harg4) K := by
  simp only [cc0_amax_eq_skeleton]; unfold cc0_amax_skel
  unfold owns
  iintro ⟨⟨%f0, %hf0, H0⟩, ⟨%f1, %hf1, H1⟩, ⟨%f2, %hf2, H2⟩, ⟨%ds0, %fs0, -, HS0⟩, Hk⟩
  obtain rfl := harg1.eq_unread hf0; obtain rfl := harg2.eq_unread hf1; obtain rfl := harg3.eq_unread hf2
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _
  isplitr
  swap; · iexact HS0
  ipureintro
  rw [View.read_writes_full, View.readAt_full, hf0]
  unfold run_first.sl.v5 run_first.sl.HS0_1
  rw [View.readCov_full]

set_option maxHeartbeats 1000000 in
/-- At a point that is neither the first nor the last the body folds the block into the scratch. -/
theorem run_middle (hc0 : ¬isFirst i) (hc1 : ¬isLast i) (x0 : Vec F S256x8448 .bf16) (xs : Vec F S16x8448 .bf16) (xi1 xi2 : Vec F S1x1 .f32)
    (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs
        ∗ (iprop(owns (c : Thread nD τ) arg1 fullShare x0 ∗ owns (c : Thread nD τ) arg2 fullShare xi1 ∗ owns (c : Thread nD τ) arg3 fullShare xi2
            ∗ owns (c : Thread nD τ) arg4 fullShare (k0_pay2 x0 xs)) -∗ K ⟨⟩))
      ⊢ wp frame (wpE (defs₀ (F := F)) Variants.none c none) E (cc0_amax i arg1 harg1 arg2 harg2 arg3 harg3 arg4 harg4) K := by
  simp only [cc0_amax_eq_skeleton]; unfold cc0_amax_skel
  unfold owns
  iintro ⟨⟨%f0, %hf0, H0⟩, ⟨%f1, %hf1, H1⟩, ⟨%f2, %hf2, H2⟩, ⟨%fs0, %hfs0, HS0⟩, Hk⟩
  obtain rfl := harg1.eq_unread hf0; obtain rfl := harg2.eq_unread hf1; obtain rfl := harg3.eq_unread hf2
  obtain rfl := harg4.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  iexists _
  isplitr
  swap; · iexact HS0
  ipureintro
  rw [View.read_writes_full, View.readAt_full, View.readAt_full, hf0, hfs0]

set_option maxHeartbeats 1000000 in
/-- At the last point the body folds the block into the scratch, and stores the scale and its inverse. -/
theorem run_last (hc0 : ¬isFirst i) (hc1 : isLast i) (x0 : Vec F S256x8448 .bf16) (xs : Vec F S16x8448 .bf16)
    (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs
        ∗ (iprop(owns (c : Thread nD τ) arg1 fullShare x0
            ∗ owns (c : Thread nD τ) arg2 fullShare (k0_pay6 (k0_pay3 (k0_pay2 x0 xs)) (k0_pay4 (k0_pay2 x0 xs)))
            ∗ owns (c : Thread nD τ) arg3 fullShare (k0_pay7 (k0_pay3 (k0_pay2 x0 xs)) (k0_pay4 (k0_pay2 x0 xs)))
            ∗ owns (c : Thread nD τ) arg4 fullShare (k0_pay2 x0 xs)) -∗ K ⟨⟩))
      ⊢ wp frame (wpE (defs₀ (F := F)) Variants.none c none) E (cc0_amax i arg1 harg1 arg2 harg2 arg3 harg3 arg4 harg4) K := by
  simp only [cc0_amax_eq_skeleton]; unfold cc0_amax_skel
  simp only [k0_part1_eq_skeleton, k0_part2_eq_skeleton]
  unfold owns
  iintro ⟨⟨%f0, %hf0, H0⟩, ⟨%d1, %f1, -, H1⟩, ⟨%d2, %f2, -, H2⟩, ⟨%fs0, %hfs0, HS0⟩, Hk⟩
  obtain rfl := harg1.eq_unread hf0; obtain rfl := harg4.eq_unread hfs0
  sl_exec (disch := first | sl_exact hc0 | sl_exact hc1)
  sl_step
  iapply Hk
  isplitl [H0]
  · iexists _; isplitr; · ipureintro; exact harg1.read_unread _
    iexact H0
  isplitl [H1]
  · iexists _; isplitr; swap; · iexact H1
    ipureintro
    rw [View.read_writes_full]
    unfold run_last.sl.r run_last.sl.r_1 run_last.sl.v15 run_last.sl.HS0_1
    rw [View.readCov_full, View.readAt_full, View.readAt_full, hf0, hfs0]
  isplitl [H2]
  · iexists _; isplitr; swap; · iexact H2
    ipureintro
    refine (View.read_writes_full (s := S1x1) _ _ inb_S1x1_S1x1_0_0 _ _).trans ?_
    unfold run_last.sl.r_2 run_last.sl.r run_last.sl.r_1 run_last.sl.v15 run_last.sl.HS0_1
    rw [View.readCov_full, View.readAt_full, View.readAt_full, hf0, hfs0]
  iexists _
  isplitr
  swap; · iexact HS0
  ipureintro
  unfold run_last.sl.HS0_1
  rw [View.read_writes_full, View.readAt_full, View.readAt_full, hf0, hfs0]

end Runs

/-! ## The call's proof data -/

section Data

variable (V : Dev nD → Valuation τ sig (Elt F))

/-- Window `w`'s block at point `t`, read off its array as the call finds it. -/
def iblk (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

/-- The scratch after point `n`: the maximum so far. -/
def acc (c : Dev nD) : (n : ℕ) → n < cfg0.N → Vec F S16x8448 .bf16
  | 0, h => k0_pay2 (iblk V c 0 ⟨0, h⟩) k0_pay1
  | n + 1, h => k0_pay2 (iblk V c 0 ⟨n + 1, h⟩) (acc c n (Nat.lt_of_succ_lt h))

/-- The scratch buffer. -/
abbrev scr : Memref sig .tc .vmem S16x8448 .bf16 := Memref.whole cc0_scratch0

/-- Between points: the scratch holds the maximum so far (anything, before the first point); everything else the call's
    own, as at its start. -/
def Phi (c : Dev nD) : (n : ℕ) → n ≤ cfg0.N → sProp 𝕄
  | 0, _ => Pipeline.ΦA spec0 c
  | n + 1, hn => iprop(owns (c : Thread nD τ) scr fullShare (acc V c n hn) ∗ ((∃ d, owns (c : Thread nD τ) scr fullShare d) -∗ Pipeline.ΦA spec0 c))

/-- The scratch out of the call's own state, with the way back. -/
theorem PhiA_split (c : Dev nD) :
    (Pipeline.ΦA spec0 c : sProp 𝕄) ⊢ iprop((∃ d, owns (c : Thread nD τ) scr fullShare d) ∗ ((∃ d, owns (c : Thread nD τ) scr fullShare d) -∗ Pipeline.ΦA spec0 c)) := by
  unfold Pipeline.ΦA; rw [scopedRest0_eq]; simp only [scr, owns_whole]
  iintro ⟨⟨Hs, Hr⟩, Hg⟩
  isplitl [Hs]; · iexact Hs
  iintro Hs
  isplitr [Hg]
  · isplitl [Hs]; · iexact Hs
    iexact Hr
  iexact Hg

/-- Before the first step the carried state is the call's own allocation. -/
theorem Phi_zero (c : Dev nD) (n : ℕ) (h : n ≤ cfg0.N) (hz : n = 0) : Phi V c n h = Pipeline.ΦA spec0 c := by subst hz; rfl

/-- After step `n` the scratch holds the accumulator of step `n`. -/
theorem Phi_succ (c : Dev nD) (n : ℕ) (hn : n < cfg0.N) :
    Phi V c (n + 1) hn = iprop(owns (c : Thread nD τ) scr fullShare (acc V c n hn) ∗ ((∃ d, owns (c : Thread nD τ) scr fullShare d) -∗ Pipeline.ΦA spec0 c)) := rfl

/-- Before a later step the scratch holds the accumulator of the step before. -/
theorem Phi_pos (c : Dev nD) (n : ℕ) (h : n ≤ cfg0.N) (hz : n ≠ 0) :
    Phi V c n h = iprop(owns (c : Thread nD τ) scr fullShare (acc V c (n - 1) (by omega)) ∗ ((∃ d, owns (c : Thread nD τ) scr fullShare d) -∗ Pipeline.ΦA spec0 c)) := by
  cases n with
  | zero => exact absurd rfl hz
  | succ n => rfl

/-- The first step starts the accumulator from zeros. -/
theorem acc_zero (c : Dev nD) (t : Fin cfg0.N) (h : t.val = 0) : acc V c t.val t.isLt = k0_pay2 (iblk V c 0 t) k0_pay1 := by
  obtain ⟨n, hn⟩ := t
  obtain rfl : n = 0 := h
  rfl

/-- A later step takes its block into the accumulator of the step before. -/
theorem acc_pos (c : Dev nD) (t : Fin cfg0.N) (h : t.val ≠ 0) :
    acc V c t.val t.isLt = k0_pay2 (iblk V c 0 t) (acc V c (t.val - 1) (Nat.lt_of_le_of_lt (Nat.sub_le _ _) t.isLt)) := by
  obtain ⟨n, hn⟩ := t
  cases n with
  | zero => exact absurd rfl h
  | succ n => rfl

/-- The scale that the maximum `a` gives. -/
abbrev scaleOf (a : Vec F S16x8448 .bf16) : Vec F S1x1 .f32 := k0_pay6 (k0_pay3 a) (k0_pay4 a)
/-- The inverse scale that the maximum `a` gives. -/
abbrev invOf (a : Vec F S16x8448 .bf16) : Vec F S1x1 .f32 := k0_pay7 (k0_pay3 a) (k0_pay4 a)

/-- The call's proof data: its arrays as it finds them, what each point leaves in the windows, the scratch. -/
def dat (c : Dev nD) : Dat τ (Elt F) Unit ℕ (UR sig nD τ) ℕ cfg0 c where
  A w := V c (Proc.devRef .tc (Pipeline.arrRef spec0 w))
  after w t := match w with
    | ⟨0, _⟩ => iblk V c 0 t
    | ⟨1, _⟩ => scaleOf (acc V c t.val t.isLt)
    | ⟨2, _⟩ => invOf (acc V c t.val t.isLt)
  Φ t := Phi V c t.val (Nat.le_of_lt_succ t.isLt)
  q _ := fullShare
  owed _ := 0

/-- An operand starts as the device's memory has it. -/
theorem A_eq (c : Dev nD) (w : Fin cfg0.W) : (dat V c).A w = V c (Proc.devRef .tc (Pipeline.arrRef spec0 w)) := by
  dsimp only [dat]

/-- The carried state before step `t`, by the step's number. -/
theorem Phi_castSucc (c : Dev nD) (t : Fin cfg0.N) : (dat V c).Φ t.castSucc = Phi V c t.val (Nat.le_of_lt t.isLt) := by
  dsimp only [dat]; exact Pipeline.Dat.Φ_castSucc (Phi V c) t

/-- The weight's block is left as it is. -/
theorem after_0 (c : Dev nD) (t : Fin cfg0.N) : (dat V c).after 0 t = iblk V c 0 t := by dsimp only [dat]
/-- The scale's window after a step is the scale of the accumulator. -/
theorem after_1 (c : Dev nD) (t : Fin cfg0.N) : (dat V c).after 1 t = scaleOf (acc V c t.val t.isLt) := by dsimp only [dat]
/-- The inverse's window after a step is the inverse scale of the accumulator. -/
theorem after_2 (c : Dev nD) (t : Fin cfg0.N) : (dat V c).after 2 t = invOf (acc V c t.val t.isLt) := by dsimp only [dat]

/-- The input window's buffer holds its block at every point. -/
theorem before_0 (c : Dev nD) (t : Fin cfg0.N) (d) : (dat V c).before 0 t d = iblk V c 0 t :=
  ((dat V c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)

/-- Every step uses its block of the weight. -/
theorem live_0 (t : Fin cfg0.N) : cfg0.idle 0 (grid0.coords t) = false := rfl
/-- Only the last step writes the scale. -/
theorem idle_1 : ∀ t : Fin cfg0.N, ¬isLast (grid0.coords t) → cfg0.idle 1 (grid0.coords t) = true := by decide +kernel
/-- Only the last step writes the inverse scale. -/
theorem idle_2 : ∀ t : Fin cfg0.N, ¬isLast (grid0.coords t) → cfg0.idle 2 (grid0.coords t) = true := by decide +kernel
/-- The last step writes the scale. -/
theorem live_1 : ∀ t : Fin cfg0.N, isLast (grid0.coords t) → cfg0.idle 1 (grid0.coords t) = false := by decide +kernel
/-- The last step writes the inverse scale. -/
theorem live_2 : ∀ t : Fin cfg0.N, isLast (grid0.coords t) → cfg0.idle 2 (grid0.coords t) = false := by decide +kernel
/-- The scale is not sent out before the last step. -/
theorem noFlush_1 : ∀ t : Fin cfg0.N, ¬isLast (grid0.coords t) → (cfg0.win 1).flush t = false := by decide +kernel
/-- The inverse scale is not sent out before the last step. -/
theorem noFlush_2 : ∀ t : Fin cfg0.N, ¬isLast (grid0.coords t) → (cfg0.win 2).flush t = false := by decide +kernel

/-! ## The body's obligation at every point -/

/-- The buffer of the weight's block. -/
abbrev ms0 (t : Fin cfg0.N) : Memref sig .tc .vmem S256x8448 .bf16 := win0_0.stage (cfg0.slots t 0)
/-- The buffer of the scale. -/
abbrev ms1 (t : Fin cfg0.N) : Memref sig .tc .vmem S1x1 .f32 := win0_1.stage (cfg0.slots t 1)
/-- The buffer of the inverse scale. -/
abbrev ms2 (t : Fin cfg0.N) : Memref sig .tc .vmem S1x1 .f32 := win0_2.stage (cfg0.slots t 2)

/-- What the body is called with at point `t`. -/
def bodyPre (c : Dev nD) (t : Fin cfg0.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- What it returns. -/
def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t)

set_option maxHeartbeats 4800000 in
/-- The body at any point: the first, the last, or one between. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before_0]
  rw [show (dat V c).owesAt () t.succ = (dat V c).owesAt () t.castSucc from rfl]
  rw [show (dat V c).Φ t.succ = Phi V c (t.val + 1) t.isLt from rfl, Phi_succ]
  rw [show (dat V c).leavesExact 0 t = owns (c : Thread nD τ) (ms0 t) fullShare ((dat V c).after 0 t) from by
    unfold Dat.leavesExact; rw [live_0 t], after_0]
  have hN : t.val < 16 := lt_of_lt_of_eq t.isLt (show cfg0.N = 16 from N_0)
  by_cases hz : t.val = 0
  · have hl : ¬isLast (grid0.coords t) := fun h => by have := (isLast_iff t).mp h; omega
    rw [Dat.leavesExact_idle (dat V c) 1 t (idle_1 t hl) (noFlush_1 t hl), Dat.leavesExact_idle (dat V c) 2 t (idle_2 t hl) (noFlush_2 t hl),
      Phi_castSucc V c t, Phi_zero V c _ _ hz, acc_zero V c t hz]
    iintro ⟨HP, Ho, ⟨%d0, H0⟩, ⟨%d1, H1⟩, ⟨%d2, H2⟩⟩
    ihave HP' := (PhiA_split (F := F) c) $$ HP
    icases HP' with ⟨HS, Hback⟩
    iapply (run_first c (grid0.coords t) _ _ _ _ _ _ _ _ ((isFirst_iff t).mpr hz) hl (iblk V c 0 t) _ _ Set.univ _)
    isplitl [H0]; · iexact H0
    isplitl [H1]; · iexact H1
    isplitl [H2]; · iexact H2
    isplitl [HS]; · iexact HS
    iintro ⟨H0, H1, H2, HS⟩
    isplitl [HS Hback]
    · isplitl [HS]; · iexact HS
      iexact Hback
    isplitl [Ho]; · iexact Ho
    isplitl [H0]; · iexact H0
    isplitl [H1]; · iexists _; iexact H1
    iexists _; iexact H2
  · have hf : ¬isFirst (grid0.coords t) := fun h => hz ((isFirst_iff t).mp h)
    rw [Phi_castSucc V c t, Phi_pos V c _ _ hz]
    by_cases h1 : t.val = 15
    · have hl : isLast (grid0.coords t) := (isLast_iff t).mpr h1
      rw [show (dat V c).leavesExact 1 t = owns (c : Thread nD τ) (ms1 t) fullShare ((dat V c).after 1 t) from by
          unfold Dat.leavesExact; rw [live_1 t hl],
        show (dat V c).leavesExact 2 t = owns (c : Thread nD τ) (ms2 t) fullShare ((dat V c).after 2 t) from by
          unfold Dat.leavesExact; rw [live_2 t hl], after_1, after_2, acc_pos V c t hz]
      iintro ⟨⟨HS, Hback⟩, Ho, ⟨%d0, H0⟩, ⟨%d1, H1⟩, ⟨%d2, H2⟩⟩
      iapply (run_last c (grid0.coords t) _ _ _ _ _ _ _ _ hf hl (iblk V c 0 t) _ Set.univ _)
      isplitl [H0]; · iexact H0
      isplitl [H1]; · iexists _; iexact H1
      isplitl [H2]; · iexists _; iexact H2
      isplitl [HS]; · iexact HS
      iintro ⟨H0, H1, H2, HS⟩
      isplitl [HS Hback]
      · isplitl [HS]; · iexact HS
        iexact Hback
      isplitl [Ho]; · iexact Ho
      isplitl [H0]; · iexact H0
      isplitl [H1]; · iexact H1
      iexact H2
    · have hl : ¬isLast (grid0.coords t) := fun h => h1 ((isLast_iff t).mp h)
      rw [Dat.leavesExact_idle (dat V c) 1 t (idle_1 t hl) (noFlush_1 t hl), Dat.leavesExact_idle (dat V c) 2 t (idle_2 t hl) (noFlush_2 t hl),
        acc_pos V c t hz]
      iintro ⟨⟨HS, Hback⟩, Ho, ⟨%d0, H0⟩, ⟨%d1, H1⟩, ⟨%d2, H2⟩⟩
      iapply (run_middle c (grid0.coords t) _ _ _ _ _ _ _ _ hf hl (iblk V c 0 t) _ _ _ Set.univ _)
      isplitl [H0]; · iexact H0
      isplitl [H1]; · iexact H1
      isplitl [H2]; · iexact H2
      isplitl [HS]; · iexact HS
      iintro ⟨H0, H1, H2, HS⟩
      isplitl [HS Hback]
      · isplitl [HS]; · iexact HS
        iexact Hback
      isplitl [Ho]; · iexact Ho
      isplitl [H0]; · iexact H0
      isplitl [H1]; · iexists _; iexact H1
      iexists _; iexact H2

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

/-- The library's body obligation, at every point. -/
theorem body_obligation (c : Dev nD) : BodyObligation (dat V c) (defs₀ (F := F)) Variants.none () Set.univ := fun t => by
  rw [bigSep_W0, bigSep_W0, defs₀_row]
  exact triple_restated (sound_body V c t) rfl .rfl fun _ => .rfl

/-- What the call's start hands over is the state before the first point. -/
theorem hin (c : Dev nD) : (Pipeline.ΦA spec0 c : sProp 𝕄) ⊢ (dat V c).Φ 0 := by
  rw [show (dat V c).Φ 0 = Phi V c 0 (Nat.zero_le _) from rfl, Phi_zero V c 0 _ rfl]

/-- After the last point the scratch's contents are forgotten. -/
theorem hout (c : Dev nD) : (dat V c).Φ (Fin.last cfg0.N) ⊢ (Pipeline.ΦA spec0 c : sProp 𝕄) := by
  rw [show (dat V c).Φ (Fin.last cfg0.N) = Phi V c cfg0.N le_rfl from rfl, Phi_pos V c _ _ (by rw [show cfg0.N = 16 from N_0]; decide)]
  iintro ⟨HS, Hback⟩
  iapply Hback
  iexists _; iexact HS

end Data

end Cert.KernelIdeal.Amax

end
-- ==== Proof.KernelIdeal.Quant.lean ====
/- The second kernel call (`quant_w`) as one region of the program: each grid point multiplies one block of 256 rows of
   the weight by the inverse scale, clips it and stores it as codes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.VecWindow
public import Idealize.ShloMosaic.Lib.Ring
public import Idealize.ShloMosaic.Lib.Tactic
public import Idealize.ShloMosaic.Lib.WordCmp
public import Idealize.ShloMosaic.Lib.Exec

@[expose] public section

set_option maxRecDepth 16384

noncomputable section

namespace Cert.KernelIdeal.Quant

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One run of the body -/

set_option maxHeartbeats 1000000 in
/-- The body with its inputs at read contents stores the codes of its block. -/
theorem run (c : Dev nD) (i : grid1.Coords) (arg1 : Memref sig .tc .vmem S1x1 .f32) (harg1 : arg1.IsWhole) (arg2 : Memref sig .tc .vmem S256x8448 .bf16) (harg2 : arg2.IsWhole) (arg3 : Memref sig .tc .vmem S256x8448 .fp8e4m3) (harg3 : arg3.IsWhole)
    (x0 : Vec F S1x1 .f32) (x1 : Vec F S256x8448 .bf16) (E : Set ℕ) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k1_pay1 x0 x1)) -∗ K ⟨⟩))
      ⊢ wp frame (wpE (defs₀ (F := F)) Variants.none c none) E (cc1_quant_w i arg1 harg1 arg2 harg2 arg3 harg3) K := by
  simp only [cc1_quant_w_eq_skeleton]; unfold cc1_quant_w_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_full, View.readAt_full, View.readAt_full]

/-! ## The call's proof data -/

section Data

variable (V : Dev nD → Valuation τ sig (Elt F))

/-- Window `w`'s block at point `t`, read off its array as the call finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The call's proof data: its arrays as it finds them, what each point leaves in the windows. -/
def dat (c : Dev nD) : Dat τ (Elt F) Unit ℕ (UR sig nD τ) ℕ cfg1 c where
  A w := V c (Proc.devRef .tc (Pipeline.arrRef spec1 w))
  after w t := match w with
    | ⟨0, _⟩ => iblk V c 0 t
    | ⟨1, _⟩ => iblk V c 1 t
    | ⟨2, _⟩ => k1_pay1 (iblk V c 0 t) (iblk V c 1 t)
  Φ _ := Pipeline.ΦA spec1 c
  q _ := fullShare
  owed _ := 0

/-- An operand starts as the device's memory has it. -/
theorem A_eq (c : Dev nD) (w : Fin cfg1.W) : (dat V c).A w = V c (Proc.devRef .tc (Pipeline.arrRef spec1 w)) := by
  dsimp only [dat]

/-- The inverse scale is left as it is. -/
theorem after_0 (c : Dev nD) (t : Fin cfg1.N) : (dat V c).after 0 t = iblk V c 0 t := by dsimp only [dat]
/-- The weight's block is left as it is. -/
theorem after_1 (c : Dev nD) (t : Fin cfg1.N) : (dat V c).after 1 t = iblk V c 1 t := by dsimp only [dat]
/-- The codes' window holds the codes of the weight's block. -/
theorem after_2 (c : Dev nD) (t : Fin cfg1.N) : (dat V c).after 2 t = k1_pay1 (iblk V c 0 t) (iblk V c 1 t) := by dsimp only [dat]

/-- Each input window's buffer holds its block at every point. -/
theorem before_0 (c : Dev nD) (t : Fin cfg1.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- A step finds the weight's block in its window. -/
theorem before_1 (c : Dev nD) (t : Fin cfg1.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)

/-! ## The body's obligation at every point -/

/-- The buffer of the inverse scale. -/
abbrev ms0 (t : Fin cfg1.N) : Memref sig .tc .vmem S1x1 .f32 := win1_0.stage (cfg1.slots t 0)
/-- The buffer of the weight's block. -/
abbrev ms1 (t : Fin cfg1.N) : Memref sig .tc .vmem S256x8448 .bf16 := win1_1.stage (cfg1.slots t 1)
/-- The buffer of the codes' block. -/
abbrev ms2 (t : Fin cfg1.N) : Memref sig .tc .vmem S256x8448 .fp8e4m3 := win1_2.stage (cfg1.slots t 2)

/-- What the body is called with at point `t`. -/
def bodyPre (c : Dev nD) (t : Fin cfg1.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d)))

/-- What it returns. -/
def bodyPost (c : Dev nD) (t : Fin cfg1.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t))

/-- The body at any point. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before_0, before_1]
  rw [show (dat V c).Φ t.succ = (dat V c).Φ t.castSucc from rfl,
    show (dat V c).owesAt () t.succ = (dat V c).owesAt () t.castSucc from rfl,
    after_0, after_1, after_2]
  iintro ⟨HΦ, Ho, ⟨%d0, H0⟩, ⟨%d1, H1⟩, ⟨%d2, H2⟩⟩
  iapply (run c (grid1.coords t) _ _ _ _ _ _ (iblk V c 0 t) (iblk V c 1 t) Set.univ _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body. -/
theorem defs₀_row (t : Fin cfg1.N) : defs₀ (F := F) .tc cfg1.body (cfg1.bodyArgs t (cfg1.slots t)) = bodyAt1 t := by
  unfold defs₀; rw [Defs.onTc_tc]

/-- The library's body obligation, at every point. -/
theorem body_obligation (c : Dev nD) : BodyObligation (dat V c) (defs₀ (F := F)) Variants.none () Set.univ := fun t => by
  rw [bigSep_W1, bigSep_W1, defs₀_row]
  exact triple_restated (sound_body V c t) rfl .rfl fun _ => .rfl

end Data

end Cert.KernelIdeal.Quant

end
-- ==== Proof.KernelIdeal.Dgrad.lean ====
/- The third kernel call (`dgrad`) as one region of the program. Its grid is 8 row blocks of the gradient by 4 row
   blocks of the weight. The first point of each row block quantises the block, which stays in the output buffers for
   the row block's other points; every point multiplies the codes by a block of weight codes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.TableIdle
public import Idealize.ShloMosaic.Lib.VecWindow
public import Idealize.ShloMosaic.Lib.Ring
public import Idealize.ShloMosaic.Lib.Tactic
public import Idealize.ShloMosaic.Lib.WordCmp
public import Idealize.ShloMosaic.Lib.Exec

@[expose] public section

set_option maxRecDepth 16384

noncomputable section

namespace Cert.KernelIdeal.Dgrad

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The condition of the body -/

/-- The condition of the body's conditional: the first weight block. -/
abbrev isFirst (i : grid2.Coords) : Prop := k2_cond1 i = 1#1

/-- It holds at the first of each four points. -/
theorem isFirst_iff : ∀ t : Fin cfg2.N, isFirst (grid2.coords t) ↔ t.val % 4 = 0 := by decide +kernel

/-! ## What a row block of the gradient is turned into -/

/-- The scales of a row block's rows. -/
abbrev scales (x : Vec F S512x8448 .bf16) : Vec F S512x1 .f32 := k2_pay7 (k2_pay4 x) (k2_pay5 x) 4#32
/-- The codes of a row block. -/
abbrev codes (x : Vec F S512x8448 .bf16) : Vec F S512x8448 .fp8e5m2 := k2_pay1 (k2_pay8 (k2_pay3 x) (k2_pay4 x) (k2_pay5 x) 4#32)

/-! ## The two runs of the body -/

section Runs

variable (c : Dev nD) (i : grid2.Coords) (arg2 : Memref sig .tc .vmem S1x1 .f32) (harg2 : arg2.IsWhole) (arg3 : Memref sig .tc .vmem S512x8448 .bf16) (harg3 : arg3.IsWhole) (arg4 : Memref sig .tc .vmem S1024x8448 .fp8e4m3) (harg4 : arg4.IsWhole) (arg5 : Memref sig .tc .vmem S512x1024 .bf16) (harg5 : arg5.IsWhole) (arg6 : Memref sig .tc .vmem S512x8448 .fp8e5m2) (harg6 : arg6.IsWhole) (arg7 : Memref sig .tc .vmem S512x1 .f32) (harg7 : arg7.IsWhole)

set_option maxHeartbeats 2000000 in
/-- At the first weight block the body quantises the gradient's block, then multiplies. -/
theorem run_first (hc0 : isFirst i) (x0 : Vec F S1x1 .f32) (x1 : Vec F S512x8448 .bf16) (x2 : Vec F S1024x8448 .fp8e4m3) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (k2_pay2 (codes x1) x2 (scales x1) x0)
            ∗ owns (c : Thread nD τ) arg6 fullShare (codes x1) ∗ owns (c : Thread nD τ) arg7 fullShare (scales x1)) -∗ K ⟨⟩))
      ⊢ wp frame (wpE (defs₀ (F := F)) Variants.none c none) E (cc2_dgrad i arg2 harg2 arg3 harg3 arg4 harg4 arg5 harg5 arg6 harg6 arg7 harg7) K := by
  simp only [cc2_dgrad_eq_skeleton]; unfold cc2_dgrad_skel
  simp only [k2_part1_eq_skeleton, k2_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  obtain rfl := harg2.eq_unread hf0; obtain rfl := harg3.eq_unread hf1; obtain rfl := harg4.eq_unread hf2
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_full]
    unfold run_first.sl.v3 run_first.sl.v8 run_first.sl.H4_1 run_first.sl.H5_1
    rw [View.readCov_full, View.readCov_full, View.readAt_full, View.readAt_full, hf0, hf2]
    unfold run_first.sl.r_3 run_first.sl.r_2 run_first.sl.r_1 run_first.sl.r
    rw [View.readAt_full, hf1]
  isplitl [H4]
  · iexists _; isplitr; swap; · iexact H4
    ipureintro
    unfold run_first.sl.H4_1
    rw [View.read_writes_full]
    unfold run_first.sl.r_3 run_first.sl.r_2 run_first.sl.r_1 run_first.sl.r
    rw [View.readAt_full, hf1]
  iexists _; isplitr; swap; · iexact H5
  ipureintro
  unfold run_first.sl.H5_1
  rw [View.read_writes_full]
  unfold run_first.sl.r_2 run_first.sl.r_1
  rw [View.readAt_full, hf1]

set_option maxHeartbeats 1000000 in
/-- At the other weight blocks the body multiplies the codes already there. -/
theorem run_rest (hc0 : ¬isFirst i) (x0 : Vec F S1x1 .f32) (x1 : Vec F S512x8448 .bf16) (x2 : Vec F S1024x8448 .fp8e4m3)
    (x4 : Vec F S512x8448 .fp8e5m2) (x5 : Vec F S512x1 .f32) (E : Set ℕ) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ owns (c : Thread nD τ) arg6 fullShare x4 ∗ owns (c : Thread nD τ) arg7 fullShare x5
        ∗ (iprop(owns (c : Thread nD τ) arg2 fullShare x0 ∗ owns (c : Thread nD τ) arg3 fullShare x1 ∗ owns (c : Thread nD τ) arg4 fullShare x2
            ∗ owns (c : Thread nD τ) arg5 fullShare (k2_pay2 x4 x2 x5 x0)
            ∗ owns (c : Thread nD τ) arg6 fullShare x4 ∗ owns (c : Thread nD τ) arg7 fullShare x5) -∗ K ⟨⟩))
      ⊢ wp frame (wpE (defs₀ (F := F)) Variants.none c none) E (cc2_dgrad i arg2 harg2 arg3 harg3 arg4 harg4 arg5 harg5 arg6 harg6 arg7 harg7) K := by
  simp only [cc2_dgrad_eq_skeleton]; unfold cc2_dgrad_skel
  unfold owns
  iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
  obtain rfl := harg2.eq_unread hf0; obtain rfl := harg3.eq_unread hf1; obtain rfl := harg4.eq_unread hf2
  obtain rfl := harg6.eq_unread hf4; obtain rfl := harg7.eq_unread hf5
  sl_exec (disch := first | sl_exact hc0)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; swap; · iexact H3
    ipureintro
    rw [View.read_writes_full, View.readAt_full, View.readAt_full, View.readAt_full, View.readAt_full, hf0, hf2, hf4, hf5]
  isplitl [H4]
  · iexists _; isplitr; · ipureintro; exact harg6.read_unread _
    iexact H4
  iexists _; isplitr; · ipureintro; exact harg7.read_unread _
  iexact H5

end Runs

/-! ## The call's proof data -/

section Data

variable (V : Dev nD → Valuation τ sig (Elt F))

/-- Window `w`'s block at point `t`, read off its array as the call finds it. -/
def iblk (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The call's proof data: its arrays as it finds them, what each point leaves in the windows. -/
def dat (c : Dev nD) : Dat τ (Elt F) Unit ℕ (UR sig nD τ) ℕ cfg2 c where
  A w := V c (Proc.devRef .tc (Pipeline.arrRef spec2 w))
  after w t := match w with
    | ⟨0, _⟩ => iblk V c 0 t
    | ⟨1, _⟩ => iblk V c 1 t
    | ⟨2, _⟩ => iblk V c 2 t
    | ⟨3, _⟩ => k2_pay2 (codes (iblk V c 1 t)) (iblk V c 2 t) (scales (iblk V c 1 t)) (iblk V c 0 t)
    | ⟨4, _⟩ => codes (iblk V c 1 t)
    | ⟨5, _⟩ => scales (iblk V c 1 t)
  Φ _ := Pipeline.ΦA spec2 c
  q _ := fullShare
  owed _ := 0

/-- An operand starts as the device's memory has it. -/
theorem A_eq (c : Dev nD) (w : Fin cfg2.W) : (dat V c).A w = V c (Proc.devRef .tc (Pipeline.arrRef spec2 w)) := by
  dsimp only [dat]

/-- The weight's scale is left as it is. -/
theorem after_0 (c : Dev nD) (t : Fin cfg2.N) : (dat V c).after 0 t = iblk V c 0 t := by dsimp only [dat]
/-- The gradient's block is left as it is. -/
theorem after_1 (c : Dev nD) (t : Fin cfg2.N) : (dat V c).after 1 t = iblk V c 1 t := by dsimp only [dat]
/-- The weight codes' block is left as it is. -/
theorem after_2 (c : Dev nD) (t : Fin cfg2.N) : (dat V c).after 2 t = iblk V c 2 t := by dsimp only [dat]
/-- The product's window holds the scaled product of the two blocks of codes. -/
theorem after_3 (c : Dev nD) (t : Fin cfg2.N) :
    (dat V c).after 3 t = k2_pay2 (codes (iblk V c 1 t)) (iblk V c 2 t) (scales (iblk V c 1 t)) (iblk V c 0 t) := by dsimp only [dat]
/-- The codes' window holds the codes of the gradient's block. -/
theorem after_4 (c : Dev nD) (t : Fin cfg2.N) : (dat V c).after 4 t = codes (iblk V c 1 t) := by dsimp only [dat]
/-- The scales' window holds the scales of the gradient's block. -/
theorem after_5 (c : Dev nD) (t : Fin cfg2.N) : (dat V c).after 5 t = scales (iblk V c 1 t) := by dsimp only [dat]

/-- What is fetched for the gradient is its block. -/
theorem fetched_1 (c : Dev nD) (t : Fin cfg2.N) (d) : (dat V c).fetched 1 t d = iblk V c 1 t := by
  unfold Dat.fetched Dat.blockOf iblk; rw [A_eq]; try rfl

/-- Each input window's buffer holds its block at every point. -/
theorem before_0 (c : Dev nD) (t : Fin cfg2.N) (d) : (dat V c).before 0 t d = iblk V c 0 t :=
  ((dat V c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
/-- A step finds the gradient's block in its window. -/
theorem before_1 (c : Dev nD) (t : Fin cfg2.N) (d) : (dat V c).before 1 t d = iblk V c 1 t :=
  ((dat V c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
/-- A step finds its block of weight codes in its window. -/
theorem before_2 (c : Dev nD) (t : Fin cfg2.N) (d) : (dat V c).before 2 t d = iblk V c 2 t :=
  ((dat V c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- The first step of a row block writes the codes. -/
theorem live_4 : ∀ t : Fin cfg2.N, isFirst (grid2.coords t) → cfg2.idle 4 (grid2.coords t) = false := by decide +kernel
/-- The first step of a row block writes the scales. -/
theorem live_5 : ∀ t : Fin cfg2.N, isFirst (grid2.coords t) → cfg2.idle 5 (grid2.coords t) = false := by decide +kernel
/-- The other steps of a row block leave the codes alone. -/
theorem idle_4 : ∀ t : Fin cfg2.N, ¬isFirst (grid2.coords t) → cfg2.idle 4 (grid2.coords t) = true := by decide +kernel
/-- The other steps of a row block leave the scales alone. -/
theorem idle_5 : ∀ t : Fin cfg2.N, ¬isFirst (grid2.coords t) → cfg2.idle 5 (grid2.coords t) = true := by decide +kernel
/-- A step that leaves the codes alone is not the first of its row block. -/
theorem idle_pos_4 : ∀ t : Fin cfg2.N, cfg2.idle 4 (grid2.coords t) = true → t.val % 4 ≠ 0 := by decide +kernel
/-- A step that leaves the scales alone is not the first of its row block. -/
theorem idle_pos_5 : ∀ t : Fin cfg2.N, cfg2.idle 5 (grid2.coords t) = true → t.val % 4 ≠ 0 := by decide +kernel

/-- Within a row block the gradient's block does not change. -/
theorem iblk_carry (c : Dev nD) (t : Fin cfg2.N) (ht : t.val % 4 ≠ 0) :
    iblk V c 1 t = iblk V c 1 ⟨t.val - 1, Nat.lt_of_le_of_lt (Nat.sub_le _ _) t.isLt⟩ := by
  have hf : (cfg2.win 1).fetch t = false := by
    rw [← Bool.not_eq_true]; exact fun h => ht ((fetch2_1 t).mp h)
  obtain ⟨_, hix⟩ := (cfg2.win 1).index_eq_of_fetch rfl t hf
  have d := (dat V c).after 1 t
  exact (fetched_1 V c t d).symm.trans (((dat V c).fetched_congr 1 hix rfl d).trans (fetched_1 V c _ d))

/-- The codes' window changes every four steps. -/
theorem fresh_4 (t : Fin cfg2.N) : cfg2.fresh 4 t.val = decide (t.val % 4 = 0) :=
  cfg2.fresh_tab 4 (fun n => decide (n % 4 = 0)) (by decide) (by decide +kernel) t.val (Nat.le_of_lt t.isLt)
/-- The scales' window changes every four steps. -/
theorem fresh_5 (t : Fin cfg2.N) : cfg2.fresh 5 t.val = decide (t.val % 4 = 0) :=
  cfg2.fresh_tab 5 (fun n => decide (n % 4 = 0)) (by decide) (by decide +kernel) t.val (Nat.le_of_lt t.isLt)

/-- After the first weight block the two quantised outputs' buffers hold the row block's codes and scales. -/
theorem before_4 (c : Dev nD) (t : Fin cfg2.N) (ht : t.val % 4 ≠ 0) (d) : (dat V c).before 4 t d = codes (iblk V c 1 t) := by
  rw [(dat V c).before_out_traj 4 rfl (fun _ _ => rfl) (fun t h0 hi _ => by
      rw [after_4, after_4, iblk_carry V c t (idle_pos_4 t hi)]) t.val t rfl d,
    fresh_4, if_neg (by simpa using ht), after_4, ← iblk_carry V c t ht]
/-- A later step of a row block still finds the scales of the gradient's block. -/
theorem before_5 (c : Dev nD) (t : Fin cfg2.N) (ht : t.val % 4 ≠ 0) (d) : (dat V c).before 5 t d = scales (iblk V c 1 t) := by
  rw [(dat V c).before_out_traj 5 rfl (fun _ _ => rfl) (fun t h0 hi _ => by
      rw [after_5, after_5, iblk_carry V c t (idle_pos_5 t hi)]) t.val t rfl d,
    fresh_5, if_neg (by simpa using ht), after_5, ← iblk_carry V c t ht]

/-! ## The body's obligation at every point -/

/-- The buffer of the weight's scale. -/
abbrev ms0 (t : Fin cfg2.N) : Memref sig .tc .vmem S1x1 .f32 := win2_0.stage (cfg2.slots t 0)
/-- The buffer of the gradient's block. -/
abbrev ms1 (t : Fin cfg2.N) : Memref sig .tc .vmem S512x8448 .bf16 := win2_1.stage (cfg2.slots t 1)
/-- The buffer of the weight codes' block. -/
abbrev ms2 (t : Fin cfg2.N) : Memref sig .tc .vmem S1024x8448 .fp8e4m3 := win2_2.stage (cfg2.slots t 2)
/-- The buffer of the product's block. -/
abbrev ms3 (t : Fin cfg2.N) : Memref sig .tc .vmem S512x1024 .bf16 := win2_3.stage (cfg2.slots t 3)
/-- The buffer of the gradient codes' block. -/
abbrev ms4 (t : Fin cfg2.N) : Memref sig .tc .vmem S512x8448 .fp8e5m2 := win2_4.stage (cfg2.slots t 4)
/-- The buffer of the gradient scales' block. -/
abbrev ms5 (t : Fin cfg2.N) : Memref sig .tc .vmem S512x1 .f32 := win2_5.stage (cfg2.slots t 5)

/-- What the body is called with at point `t`. -/
def bodyPre (c : Dev nD) (t : Fin cfg2.N) : sProp 𝕄 :=
  iprop((dat V c).Φ t.castSucc ∗ (dat V c).owesAt () t.castSucc
    ∗ (∃ d, owns (c : Thread nD τ) (ms0 t) fullShare ((dat V c).before 0 t d))
    ∗ (∃ d, owns (c : Thread nD τ) (ms1 t) fullShare ((dat V c).before 1 t d))
    ∗ (∃ d, owns (c : Thread nD τ) (ms2 t) fullShare ((dat V c).before 2 t d))
    ∗ (∃ d, owns (c : Thread nD τ) (ms3 t) fullShare ((dat V c).before 3 t d))
    ∗ (∃ d, owns (c : Thread nD τ) (ms4 t) fullShare ((dat V c).before 4 t d))
    ∗ (∃ d, owns (c : Thread nD τ) (ms5 t) fullShare ((dat V c).before 5 t d)))

/-- What it returns. -/
def bodyPost (c : Dev nD) (t : Fin cfg2.N) : sProp 𝕄 :=
  iprop((dat V c).Φ t.succ ∗ (dat V c).owesAt () t.succ
    ∗ owns (c : Thread nD τ) (ms0 t) fullShare ((dat V c).after 0 t)
    ∗ owns (c : Thread nD τ) (ms1 t) fullShare ((dat V c).after 1 t)
    ∗ owns (c : Thread nD τ) (ms2 t) fullShare ((dat V c).after 2 t)
    ∗ owns (c : Thread nD τ) (ms3 t) fullShare ((dat V c).after 3 t)
    ∗ (dat V c).leavesExact 4 t ∗ (dat V c).leavesExact 5 t)

/-- Holding the row block's codes is enough of an answer for their window at any point. -/
theorem leaves_4 (c : Dev nD) (t : Fin cfg2.N) :
    owns (c : Thread nD τ) (ms4 t) fullShare (codes (iblk V c 1 t)) ⊢ (dat V c).leavesExact 4 t := by
  unfold Dat.leavesExact
  cases hi : cfg2.idle 4 (cfg2.grid.coords t)
  · simp only [after_4]; exact .rfl
  · cases hf : (cfg2.win 4).flush t
    · simp only [before_4 V c t (idle_pos_4 t hi)]
      iintro H
      iexists (codes (iblk V c 1 t)); iexact H
    · simp only [after_4]; exact .rfl
/-- Likewise the scales. -/
theorem leaves_5 (c : Dev nD) (t : Fin cfg2.N) :
    owns (c : Thread nD τ) (ms5 t) fullShare (scales (iblk V c 1 t)) ⊢ (dat V c).leavesExact 5 t := by
  unfold Dat.leavesExact
  cases hi : cfg2.idle 5 (cfg2.grid.coords t)
  · simp only [after_5]; exact .rfl
  · cases hf : (cfg2.win 5).flush t
    · simp only [before_5 V c t (idle_pos_5 t hi)]
      iintro H
      iexists (scales (iblk V c 1 t)); iexact H
    · simp only [after_5]; exact .rfl

set_option maxHeartbeats 1600000 in
/-- The body at any point. -/
theorem sound_body (c : Dev nD) (t : Fin cfg2.N) :
    bodyPre V c t ⊢ wp frame (wpE (defs₀ (F := F)) Variants.none c none) Set.univ (bodyAt2 t) (fun _ => bodyPost V c t) := by
  unfold bodyPre bodyPost bodyAt2
  simp only [before_0, before_1, before_2]
  rw [show (dat V c).Φ t.succ = (dat V c).Φ t.castSucc from rfl,
    show (dat V c).owesAt () t.succ = (dat V c).owesAt () t.castSucc from rfl,
    after_0, after_1, after_2, after_3]
  by_cases hz : t.val % 4 = 0
  · iintro ⟨HΦ, Ho, ⟨%d0, H0⟩, ⟨%d1, H1⟩, ⟨%d2, H2⟩, ⟨%d3, H3⟩, ⟨%d4, H4⟩, ⟨%d5, H5⟩⟩
    iapply (run_first c (grid2.coords t) _ _ _ _ _ _ _ _ _ _ _ _ ((isFirst_iff t).mpr hz) (iblk V c 0 t) (iblk V c 1 t) (iblk V c 2 t) Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    ihave H4 := (leaves_4 V c t) $$ H4
    ihave H5 := (leaves_5 V c t) $$ H5
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · simp only [before_4 V c t hz, before_5 V c t hz]
    iintro ⟨HΦ, Ho, ⟨%d0, H0⟩, ⟨%d1, H1⟩, ⟨%d2, H2⟩, ⟨%d3, H3⟩, ⟨%d4, H4⟩, ⟨%d5, H5⟩⟩
    iapply (run_rest c (grid2.coords t) _ _ _ _ _ _ _ _ _ _ _ _ (fun h => hz ((isFirst_iff t).mp h)) (iblk V c 0 t) (iblk V c 1 t) (iblk V c 2 t)
      (codes (iblk V c 1 t)) (scales (iblk V c 1 t)) Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, H3, H4, H5⟩
    ihave H4 := (leaves_4 V c t) $$ H4
    ihave H5 := (leaves_5 V c t) $$ H5
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The body table's row at point `t`'s slots is the body. -/
theorem defs₀_row (t : Fin cfg2.N) : defs₀ (F := F) .tc cfg2.body (cfg2.bodyArgs t (cfg2.slots t)) = bodyAt2 t := by
  unfold defs₀; rw [Defs.onTc_tc]

/-- The library's body obligation, at every point. -/
theorem body_obligation (c : Dev nD) : BodyObligation (dat V c) (defs₀ (F := F)) Variants.none () Set.univ := fun t => by
  rw [bigSep_W2, bigSep_W2, defs₀_row]
  exact triple_restated (sound_body V c t) rfl .rfl fun _ => .rfl

end Data

end Cert.KernelIdeal.Dgrad

end
-- ==== Proof.KernelIdeal.Run.lean ====
/- The whole program's run: a reshape on the host, the three calls, three reshapes on the host. From one record per call
   (what each call leaves in its arrays) the program's run is put together: it ends, both arguments are as they were, every
   semaphore counter is at zero, and each result holds what the chain of contents `V5` says. -/
module

public import proofs.«01_k».proof.Proof.KernelIdeal.Amax
public import proofs.«01_k».proof.Proof.KernelIdeal.Quant
public import proofs.«01_k».proof.Proof.KernelIdeal.Dgrad
public import proofs.«01_k».proof.Proof.Gen.KernelIdeal.Regions
public import Idealize.ShloMosaic.Lib.Pipeline.RegionArrays

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents between the calls -/

/-- The buffers after the first call: the scale and its inverse written. -/
def W2 (c : Dev nD) : Valuation τ sig (Elt F) :=
  Function.update (Function.update (V1 m c) main_v1_0 ((Amax.dat (V1 m) c).arrAt 1 cfg0.N)) main_v1_1 ((Amax.dat (V1 m) c).arrAt 2 cfg0.N)
/-- The buffers after the second call: the weight's codes written. -/
def W3 (c : Dev nD) : Valuation τ sig (Elt F) :=
  Function.update (W2 m c) main_v2 ((Quant.dat (W2 m) c).arrAt 2 cfg1.N)
/-- The buffers after the third call: the product, the gradient's codes and their scales written. -/
def W4 (c : Dev nD) : Valuation τ sig (Elt F) :=
  Function.update (Function.update (Function.update (W3 m c) main_v3_0 ((Dgrad.dat (W3 m) c).arrAt 3 cfg2.N))
    main_v3_1 ((Dgrad.dat (W3 m) c).arrAt 4 cfg2.N)) main_v3_2 ((Dgrad.dat (W3 m) c).arrAt 5 cfg2.N)

/-- What each call leaves in the arrays it may change. -/
def outs : Outs (F := F) := fun n r c => if n = 2 then W2 m c r else if n = 3 then W3 m c r else W4 m c r

/-- Different arrays are different device arrays. -/
theorem ne_devRef {r r' : Ref sig .tc} (h : r ≠ r') : (Proc.devRef .tc r : DevRef τ sig) ≠ Proc.devRef .tc r' := StableHlo.devRef_ne_of_ne h

/-- The memory after the first call, as the run states it, is `W2`. -/
theorem V2_eq (c : Dev nD) : V2 m (outs m) c = W2 m c := by
  have h0 : outs m 2 main_v1_0 c = (Amax.dat (V1 m) c).arrAt 1 cfg0.N := by
    unfold outs; rw [if_pos rfl]; unfold W2
    rw [Function.update_of_ne (ne_devRef (by decide)), Function.update_self]
  have h1 : outs m 2 main_v1_1 c = (Amax.dat (V1 m) c).arrAt 2 cfg0.N := by
    unfold outs; rw [if_pos rfl]; unfold W2
    rw [Function.update_self]
  unfold V2 W2; rw [h0, h1]

/-- The memory after the second call, as the run states it, is `W3`. -/
theorem V3_eq (c : Dev nD) : V3 m (outs m) c = W3 m c := by
  have h0 : outs m 3 main_v2 c = (Quant.dat (W2 m) c).arrAt 2 cfg1.N := by
    unfold outs; rw [if_neg (by decide), if_pos rfl]; unfold W3
    rw [Function.update_self]
  unfold V3 W3; rw [h0, V2_eq]

/-- The memory after the third call, as the run states it, is `W4`. -/
theorem V4_eq (c : Dev nD) : V4 m (outs m) c = W4 m c := by
  have h0 : outs m 4 main_v3_0 c = (Dgrad.dat (W3 m) c).arrAt 3 cfg2.N := by
    unfold outs; rw [if_neg (by decide), if_neg (by decide)]; unfold W4
    rw [Function.update_of_ne (ne_devRef (by decide)), Function.update_of_ne (ne_devRef (by decide)), Function.update_self]
  have h1 : outs m 4 main_v3_1 c = (Dgrad.dat (W3 m) c).arrAt 4 cfg2.N := by
    unfold outs; rw [if_neg (by decide), if_neg (by decide)]; unfold W4
    rw [Function.update_of_ne (ne_devRef (by decide)), Function.update_self]
  have h2 : outs m 4 main_v3_2 c = (Dgrad.dat (W3 m) c).arrAt 5 cfg2.N := by
    unfold outs; rw [if_neg (by decide), if_neg (by decide)]; unfold W4
    rw [Function.update_self]
  unfold V4 W4; rw [h0, h1, h2, V3_eq]

/-- The first call changes only the scale and the inverse scale. -/
theorem W2_of (c : Dev nD) (r : Ref sig .tc) (h : r ∉ ([main_v1_0, main_v1_1] : List (Ref sig .tc))) : W2 m c r = V1 m c r := by
  rw [← V2_eq]; exact V2_of m (outs m) c r h
/-- The second call changes only the weight's codes. -/
theorem W3_of (c : Dev nD) (r : Ref sig .tc) (h : r ∉ ([main_v2] : List (Ref sig .tc))) : W3 m c r = W2 m c r := by
  rw [← V3_eq, ← V2_eq]; exact V3_of m (outs m) c r h
/-- The third call changes only its three results. -/
theorem W4_of (c : Dev nD) (r : Ref sig .tc) (h : r ∉ ([main_v3_0, main_v3_1, main_v3_2] : List (Ref sig .tc))) : W4 m c r = W3 m c r := by
  rw [← V4_eq, ← V3_eq]; exact V4_of m (outs m) c r h
/-- The scale is what the first call leaves in its second operand. -/
theorem W2_scale (c : Dev nD) : W2 m c main_v1_0 = (Amax.dat (V1 m) c).arrAt 1 cfg0.N := by
  unfold W2; rw [Function.update_of_ne (ne_devRef (by decide)), Function.update_self]
/-- The inverse scale is what the first call leaves in its third operand. -/
theorem W2_inv (c : Dev nD) : W2 m c main_v1_1 = (Amax.dat (V1 m) c).arrAt 2 cfg0.N := by
  unfold W2; rw [Function.update_self]
/-- The weight's codes are what the second call leaves in its third operand. -/
theorem W3_codes (c : Dev nD) : W3 m c main_v2 = (Quant.dat (W2 m) c).arrAt 2 cfg1.N := by
  unfold W3; rw [Function.update_self]
/-- The third call leaves the weight's codes as they are. -/
theorem W4_codes (c : Dev nD) : W4 m c main_v2 = W3 m c main_v2 :=
  W4_of m c main_v2 (by decide)
/-- The product is what the third call leaves in its fourth operand. -/
theorem W4_dx (c : Dev nD) : W4 m c main_v3_0 = (Dgrad.dat (W3 m) c).arrAt 3 cfg2.N := by
  unfold W4; rw [Function.update_of_ne (ne_devRef (by decide)), Function.update_of_ne (ne_devRef (by decide)), Function.update_self]
/-- The gradient's codes are what the third call leaves in its fifth operand. -/
theorem W4_dyc (c : Dev nD) : W4 m c main_v3_1 = (Dgrad.dat (W3 m) c).arrAt 4 cfg2.N := by
  unfold W4; rw [Function.update_of_ne (ne_devRef (by decide)), Function.update_self]
/-- The gradient's scales are what the third call leaves in its sixth operand. -/
theorem W4_dys (c : Dev nD) : W4 m c main_v3_2 = (Dgrad.dat (W3 m) c).arrAt 5 cfg2.N := by
  unfold W4; rw [Function.update_self]

/-! ## The calls' records -/

/-- The proof data of the three calls. -/
def pdats (p : Fin 3) (c : Dev nD) : Dat τ (Elt F) Unit ℕ (UR sig nD τ) ℕ (cfgs p) c :=
  match p with
  | ⟨0, _⟩ => Amax.dat (V1 m) c
  | ⟨1, _⟩ => Quant.dat (W2 m) c
  | ⟨2, _⟩ => Dgrad.dat (W3 m) c

/-- No core owes another anything: no level is assigned. -/
abbrev L : GSem nD τ sig → Finset Unit := fun _ => ∅
/-- No semaphore needs a level. -/
abbrev lv : GSem nD τ sig → Unit → ℕ := fun _ _ => 0

/-- What rides beside the buffers: the generator register, and a ledger that owes nothing. -/
def rest (c : Dev nD) : sProp 𝕄 := iprop((∃ r, prngReg c r) ∗ ∃ W, owes (c : Thread nD τ) (0 : CellTallies nD τ sig Unit) W)

/-- The pinned configuration of call `p`. -/
abbrev cfgP (p : Fin 3) := Pipeline.pin (pcfgs (F := F)) adm p

set_option backward.isDefEq.respectTransparency.types false in
/-- One call as a segment: it is entered from every buffer held at `V` and left with every buffer held at `V'`, given that
    its arrays end at `V'` and that nothing else differs. -/
def region (p : Fin 3) (kit : Pipeline.LaunchFacts (nD := nD) (τ := τ) cfgs p) (V V' : Dev nD → Valuation τ sig (Elt F))
    (hbody : ∀ c, Pipeline.BodyObligationLoose (pdats m p c) (defs₀ (F := F)) Variants.none () Set.univ)
    (howed : ∀ c t, (pdats m p c).owed t = 0)
    (hrec : ∀ c t, (pdats m p c).recorded t = Set.univ)
    (hshare : ∀ c w, (pdats m p c).share w = fullShare)
    (hW : ∀ c w, (pdats m p c).arrAt w 0 = V c (Proc.devRef .tc (Pipeline.arrRef (cfgP (F := F) p).spec w)))
    (hW' : ∀ c w, (pdats m p c).arrAt w (cfgP (F := F) p).N = V' c (Proc.devRef .tc (Pipeline.arrRef (cfgP (F := F) p).spec w)))
    (hkeep : ∀ c b, b ∉ Pipeline.arrRefs (τ := τ) (cfgs p).spec → V c b = V' c b)
    (hin : ∀ c, (Pipeline.ΦA (cfgs p).spec c : sProp 𝕄) ⊢ (pdats m p c).Φ 0)
    (hout : ∀ c, (pdats m p c).Φ (Fin.last (cfgs p).N) ⊢ (Pipeline.ΦA (cfgs p).spec c : sProp 𝕄)) :
    RegionSeg (pcfgs (F := F)) adm (pdats m) () defs₀ Variants.none L lv p where
  win := kit.win.to₀
  block_pos := kit.block_pos
  stage_whole := kit.stage_whole
  K := PEmpty
  osem := fun k => k.elim
  ho := Pipeline.OwnSemFacts.none _
  hbody := hbody
  hwaits := Pipeline.hwaits_of_owed_zero _ _ _ _ L lv p howed
  pre c := iprop(StableHlo.held (c : Thread nD τ) (Pipeline.ucRefs τ sig) (V c) ∗ rest c)
  post c := iprop(StableHlo.held (c : Thread nD τ) (Pipeline.ucRefs τ sig) (V' c) ∗ rest c)
  X c := iprop(∃ r, prngReg c r)
  Y c := iprop(∃ r, prngReg c r)
  Z c := StableHlo.held (c : Thread nD τ) (Pipeline.ucRefs τ sig \ Pipeline.arrRefs (cfgs p).spec) (V c)
  hentry c := by
    rw [StableHlo.held_sub_split (c := (c : Thread nD τ)) (Pipeline.arrRefs_sub_ucRefs (τ := τ) (cfgs p).spec kit.win.arr_unscoped) (V c),
      Pipeline.arrays_held (pcfgs (F := F)) adm (pdats m) p kit.toP c (hshare c) ((pdats m p c).arrAt · 0) (V c) (hW c)]
    unfold rest
    iintro ⟨⟨⟨Ha, Hz⟩, ⟨Hg, HO⟩⟩, -, -⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun x _ => Or.inl (by rw [hrec]; exact Set.mem_univ x)
      iexact HO
    isplitl [Hg]; · iexact Hg
    iexact Hz
  hin c := by
    refine BIBase.Entails.trans ?_ (hin c)
    unfold Pipeline.ΦA
    iintro ⟨Hg, -, Hr⟩
    isplitl [Hr]; · iexact Hr
    iexact Hg
  hout c := by
    refine BIBase.Entails.trans (hout c) ?_
    unfold Pipeline.ΦA
    rw [Pipeline.ownSems0_none]
    iintro ⟨Hr, Hg⟩
    isplitl [Hg]; · iexact Hg
    isplitr; · iempintro
    iexact Hr
  hexit c := by
    rw [StableHlo.held_sub_split (c := (c : Thread nD τ)) (Pipeline.arrRefs_sub_ucRefs (τ := τ) (cfgs p).spec kit.win.arr_unscoped) (V' c),
      Pipeline.arrays_held (pcfgs (F := F)) adm (pdats m) p kit.toP c (hshare c) ((pdats m p c).arrAt · (cfgP (F := F) p).N) (V' c) (hW' c),
      StableHlo.held_congr (c := (c : Thread nD τ)) (S := Pipeline.ucRefs τ sig \ Pipeline.arrRefs (cfgs p).spec) (V := V c) (V' := V' c)
        (fun b hb => hkeep c b (Finset.mem_sdiff.mp hb).2)]
    unfold rest
    iintro ⟨Ha, HO, Hg, Hz⟩
    imodintro
    isplitl [Ha Hz]
    · isplitl [Ha]; · iexact Ha
      iexact Hz
    isplitl [Hg]; · iexact Hg
    unfold Pipeline.Dat.owesAt Pipeline.owesWithin
    rw [howed]
    icases HO with ⟨%W, -, HO⟩; iexists W; iexact HO

/-- The first call's segment. -/
def R0 : RegionSeg (pcfgs (F := F)) adm (pdats m) () defs₀ Variants.none L lv 0 :=
  region m 0 launch0 (V1 m) (W2 m) (fun c => (Amax.body_obligation (V1 m) c).loose) (fun _ _ => rfl) (fun _ _ => rfl)
    (fun c w => (Amax.dat (V1 m) c).share_full (fun _ => rfl) w)
    (fun c w => Amax.A_eq (V1 m) c w)
    (fun c w => match w with
      | ⟨0, _⟩ => ((Amax.dat (V1 m) c).arrAt_in 0 rfl _).trans (W2_of m c main_arg1 (by decide)).symm
      | ⟨1, _⟩ => (W2_scale m c).symm
      | ⟨2, _⟩ => (W2_inv m c).symm)
    (fun c b hb => by
      unfold W2
      rw [Function.update_of_ne (fun h : b = Proc.devRef .tc main_v1_1 => hb (by rw [h]; exact Finset.mem_image_of_mem (fun w => Proc.devRef .tc (Pipeline.arrRef spec0 w)) (Finset.mem_univ 2))),
        Function.update_of_ne (fun h : b = Proc.devRef .tc main_v1_0 => hb (by rw [h]; exact Finset.mem_image_of_mem (fun w => Proc.devRef .tc (Pipeline.arrRef spec0 w)) (Finset.mem_univ 1)))])
    (fun c => Amax.hin (V1 m) c) (fun c => Amax.hout (V1 m) c)

/-- The second call's segment. -/
def R1 : RegionSeg (pcfgs (F := F)) adm (pdats m) () defs₀ Variants.none L lv 1 :=
  region m 1 launch1 (W2 m) (W3 m) (fun c => (Quant.body_obligation (W2 m) c).loose) (fun _ _ => rfl) (fun _ _ => rfl)
    (fun c w => (Quant.dat (W2 m) c).share_full (fun _ => rfl) w)
    (fun c w => Quant.A_eq (W2 m) c w)
    (fun c w => match w with
      | ⟨0, _⟩ => ((Quant.dat (W2 m) c).arrAt_in 0 rfl _).trans (W3_of m c main_v1_1 (by decide)).symm
      | ⟨1, _⟩ => ((Quant.dat (W2 m) c).arrAt_in 1 rfl _).trans (W3_of m c main_arg1 (by decide)).symm
      | ⟨2, _⟩ => (W3_codes m c).symm)
    (fun c b hb => by
      unfold W3
      rw [Function.update_of_ne (fun h : b = Proc.devRef .tc main_v2 => hb (by rw [h]; exact Finset.mem_image_of_mem (fun w => Proc.devRef .tc (Pipeline.arrRef spec1 w)) (Finset.mem_univ 2)))])
    (fun c => .rfl) (fun c => .rfl)

set_option maxRecDepth 20000 in
/-- The third call's segment. -/
def R2 : RegionSeg (pcfgs (F := F)) adm (pdats m) () defs₀ Variants.none L lv 2 :=
  region m 2 launch2 (W3 m) (W4 m) (fun c => (Dgrad.body_obligation (W3 m) c).loose) (fun _ _ => rfl) (fun _ _ => rfl)
    (fun c w => (Dgrad.dat (W3 m) c).share_full (fun _ => rfl) w)
    (fun c w => Dgrad.A_eq (W3 m) c w)
    (fun c w => match w with
      | ⟨0, _⟩ => ((Dgrad.dat (W3 m) c).arrAt_in 0 rfl _).trans (W4_of m c main_v1_0 (by decide)).symm
      | ⟨1, _⟩ => ((Dgrad.dat (W3 m) c).arrAt_in 1 rfl _).trans (W4_of m c main_v0 (by decide)).symm
      | ⟨2, _⟩ => ((Dgrad.dat (W3 m) c).arrAt_in 2 rfl _).trans (W4_codes m c).symm
      | ⟨3, _⟩ => (W4_dx m c).symm
      | ⟨4, _⟩ => (W4_dyc m c).symm
      | ⟨5, _⟩ => (W4_dys m c).symm)
    (fun c b hb => by
      unfold W4
      rw [Function.update_of_ne (fun h : b = Proc.devRef .tc main_v3_2 => hb (by rw [h]; exact Finset.mem_image_of_mem (fun w => Proc.devRef .tc (Pipeline.arrRef spec2 w)) (Finset.mem_univ 5))),
        Function.update_of_ne (fun h : b = Proc.devRef .tc main_v3_1 => hb (by rw [h]; exact Finset.mem_image_of_mem (fun w => Proc.devRef .tc (Pipeline.arrRef spec2 w)) (Finset.mem_univ 4))),
        Function.update_of_ne (fun h : b = Proc.devRef .tc main_v3_0 => hb (by rw [h]; exact Finset.mem_image_of_mem (fun w => Proc.devRef .tc (Pipeline.arrRef spec2 w)) (Finset.mem_univ 3)))])
    (fun c => .rfl) (fun c => .rfl)

/-! ## The run -/

/-- The buffers at the end. -/
abbrev Vend (c : Dev nD) : Valuation τ sig (Elt F) := V5 m (outs m) c

set_option backward.isDefEq.respectTransparency.types false in
/-- Running the program from any memory with zero counters ends with each argument as launched, each result at `Vend`, and
    every semaphore counter at zero. -/
theorem run :
    θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1))
      ∧ r.2.mem ((c.tc : Thread nD τ).loc main_v4) = Vend m c main_v4
      ∧ r.2.mem ((c.tc : Thread nD τ).loc main_v2) = Vend m c main_v2
      ∧ r.2.mem ((c.tc : Thread nD τ).loc main_v1_0) = Vend m c main_v1_0
      ∧ r.2.mem ((c.tc : Thread nD τ).loc main_v5) = Vend m c main_v5
      ∧ r.2.mem ((c.tc : Thread nD τ).loc main_v6) = Vend m c main_v6)
      ∧ r.2.sem = fun _ => 0) := by
  refine Pipeline.θ_run_regions_kit_dev_sems (pcfgs (F := F)) adm (pdats m) () cellOf_inj emb₁ defs₀ Variants.none L lv m ρ main
    (segs m (outs m) Variants.none L lv (fun _ => rest) () (pdats m) (R0 m) (R1 m) (R2 m))
    (fun c Q => by
      rewrite [main_chain c, Seg.run_eq_chain,
        show (segs m (outs m) Variants.none L lv (fun _ => rest) () (pdats m) (R0 m) (R1 m) (R2 m) c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) 0 (fun _ _ => rfl)
    (fun _ => iprop(emp)) (initOf (Pipeline.cells (nD := nD) (τ := τ) cfgs cellOf_inj) (Pipeline.launchToks (nD := nD) (τ := τ) cfgs cellOf_inj))
    (by
      iintro Hu; imodintro; isplitl [Hu]
      · iapply (show (ownU _ : sProp 𝕄) ⊢ BI.own (emb₁ (initOf (Pipeline.cells (nD := nD) (τ := τ) cfgs cellOf_inj) (Pipeline.launchToks (nD := nD) (τ := τ) cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (Vend m c))
    (hch := fun c => ⟨.rfl, .rfl, .rfl, .rfl, by
      show (iprop(StableHlo.held (c : Thread nD τ) (Pipeline.ucRefs τ sig) (W4 m c) ∗ rest c) : sProp 𝕄)
        ⊢ iprop(StableHlo.held (c : Thread nD τ) (Pipeline.ucRefs τ sig) (V4 m (outs m) c) ∗ rest c)
      rw [V4_eq], sep_mono .rfl (by unfold rest; iintro ⟨-, HO⟩; iexact HO)⟩)
    (hinit := ?_) (QY := fun c s => (s.mem ((c.tc : Thread nD τ).loc main_arg0) = m ((c.tc : Thread nD τ).loc main_arg0)
      ∧ s.mem ((c.tc : Thread nD τ).loc main_arg1) = m ((c.tc : Thread nD τ).loc main_arg1))
      ∧ s.mem ((c.tc : Thread nD τ).loc main_v4) = Vend m c main_v4
      ∧ s.mem ((c.tc : Thread nD τ).loc main_v2) = Vend m c main_v2
      ∧ s.mem ((c.tc : Thread nD τ).loc main_v1_0) = Vend m c main_v1_0
      ∧ s.mem ((c.tc : Thread nD τ).loc main_v5) = Vend m c main_v5
      ∧ s.mem ((c.tc : Thread nD τ).loc main_v6) = Vend m c main_v6)
    (hfin := fun c s' => ?_) (hQ := fun _ h hz => ⟨h, funext fun g => hz g (.inr (regions_no_unscoped g.2))⟩)
  · iintro ⟨H, -⟩
    imodintro
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ iprop(emp)))
        ⊢ (bigSep Finset.univ fun c : Dev nD => iprop(StableHlo.held (c : Thread nD τ) (Pipeline.ucRefs τ sig) (V0 m c) ∗ rest c) : sProp 𝕄) := by
      refine bigSep_mono fun c _ => ?_
      rw [← Pipeline.unscopedBufs_held (Ix := Unit) (Name := ℕ) (U := UR sig nD τ) (Lvl := ℕ) c (V0 m c)]
      unfold rest
      change BIBase.Entails (PROP := sProp 𝕄) _ _
      iintro ⟨Hb, -, HO, -, Hg, -⟩
      isplitl [Hb]; · iexact Hb
      isplitl [Hg]; · iexists _; iexact Hg
      iexists _; iexact HO
    iapply hsplit
    iexact H
  · unfold StableHlo.held
    iintro ⟨Hh, HSI⟩
    ihave Hr := (pointsTo_read_all (Pipeline.ucRefs τ sig) (fun b => ((c : Thread nD τ).1, b)) (Vend m c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V5_main_arg0 m (outs m) c),
        (h (Proc.devRef .tc main_arg1) (Finset.mem_filter.mpr ⟨StableHlo.devRef_mem_tcRefs main_arg1, by decide⟩)).trans (V5_main_arg1 m (outs m) c)⟩,
        h (Proc.devRef .tc main_v4) (Finset.mem_filter.mpr ⟨StableHlo.devRef_mem_tcRefs main_v4, by decide⟩),
        h (Proc.devRef .tc main_v2) (Finset.mem_filter.mpr ⟨StableHlo.devRef_mem_tcRefs main_v2, by decide⟩),
        h (Proc.devRef .tc main_v1_0) (Finset.mem_filter.mpr ⟨StableHlo.devRef_mem_tcRefs main_v1_0, by decide⟩),
        h (Proc.devRef .tc main_v5) (Finset.mem_filter.mpr ⟨StableHlo.devRef_mem_tcRefs main_v5, by decide⟩),
        h (Proc.devRef .tc main_v6) (Finset.mem_filter.mpr ⟨StableHlo.devRef_mem_tcRefs main_v6, by decide⟩)⟩
    · iexact HSI

/-- The frame alone: the run ends with the arguments as launched and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => (h.1 c).1, h.2⟩) (run m ρ)

end Cert.KernelIdeal.Run

end
-- ==== Proof.Value.Pow2.lean ====
/- One power-of-two scale, on extended reals. The kernel finds the exponent field of a number by bisection (eight
   comparisons with powers of two) and builds the scale and its inverse from the field; the reference takes the least
   integer exponent whose power of two exceeds the number. Here: the two are the same scale and the same inverse. -/
module

public import Idealize.ShloMosaic.PureOps.Ideal.Laws

@[expose] public section

noncomputable section

namespace Cert.Pow2

open Idealize.ShloMosaic

/-! ## The kernel's side -/

/-- The number whose exponent field is `b` and whose fraction is zero. -/
def power (b : BitVec 32) : EReal := Ideal.ofBits .f32 (IntOp.shli .vector b 23#32)

/-- One step of the bisection: take the bit `w` into the field where the power so reached is at most `x`. -/
def step (x : EReal) (w b : BitVec 32) : BitVec 32 :=
  Scalar.select (Ideal.cmp .oge x (power (IntOp.ori b w))) (IntOp.ori b w) b

/-- The exponent field found by the eight steps. -/
def field (x : EReal) : BitVec 32 :=
  step x 1#32 (step x 2#32 (step x 4#32 (step x 8#32 (step x 16#32 (step x 32#32 (step x 64#32 (step x 128#32 0#32)))))))

/-- The kernel's exponent: 0 where the field is 0 or 255, else the field less 126. -/
def expo (x : EReal) : BitVec 32 :=
  Scalar.select (IntOp.ori (IntOp.cmpi .eq (field x) 0#32) (IntOp.cmpi .eq (field x) 255#32)) 0#32 (IntOp.subi (field x) 126#32)

/-- The kernel's scale. -/
def scale (x : EReal) : EReal := power (IntOp.addi 127#32 (expo x))
/-- The kernel's inverse scale. -/
def inv (x : EReal) : EReal := power (IntOp.subi 127#32 (expo x))

/-! ## The reference's side -/

/-- The `k`-th candidate exponent, an integer between -125 and 127. -/
def cand (k : Fin 253) : EReal := (((IntOp.subi (BitVec.ofNat 32 k.val) 125#32).toInt : ℝ) : EReal)

/-- The least candidate whose power of two exceeds `x`, infinite if there is none. -/
def least (x : EReal) : EReal :=
  Finset.univ.fold min ⊤ fun k : Fin 253 => Scalar.select (Ideal.cmp .ogt (Ideal.exp2 (cand k)) x) (cand k) ⊤

/-- The reference's exponent: 0 where `x` is below the least normal number or infinite. -/
def rexpo (x : EReal) : EReal :=
  Scalar.select (IntOp.ori (Ideal.cmp .olt x (Ideal.ofBits .f32 0x00800000#32)) (Ideal.cmp .oeq x (Ideal.ofBits .f32 0x7F800000#32)))
    (Ideal.ofBits .f32 0x00000000#32) (least x)

/-! ## Values of the powers -/

/-- The value of the exponent field `n` with a zero fraction. -/
def P (n : ℕ) : EReal := if n = 255 then ⊤ else if n = 0 then 0 else (((2 : ℝ) ^ ((n : ℤ) - 127) : ℝ) : EReal)

/-- A number below 256 shifted to the exponent's place is that exponent field, with zero fraction and sign. -/
theorem bits_of_field : ∀ n : Fin 256, ((BitVec.ofNat 32 n.val <<< (23#32)).extractLsb' 23 8).toNat = n.val
    ∧ ((BitVec.ofNat 32 n.val <<< (23#32)).extractLsb' 0 23).toNat = 0
    ∧ ((BitVec.ofNat 32 n.val <<< (23#32)).extractLsb' 31 1 == 1#1) = false := by decide +kernel

/-- A word with exponent field `n`, zero fraction and zero sign has the value `P n`. -/
theorem ieee_field (b : BitVec 32) (n : ℕ) (h1 : (b.extractLsb' 23 8).toNat = n) (h2 : (b.extractLsb' 0 23).toNat = 0)
    (h3 : (b.extractLsb' 31 1 == 1#1) = false) : Ideal.ieee 8 23 b = P n := by
  unfold Ideal.ieee P
  simp only [h1, h2, h3, show (8 + 23 : ℕ) = 31 from rfl]
  by_cases h255 : n = 255
  · rw [if_pos (by omega), if_pos trivial, if_pos h255]; rfl
  by_cases h0 : n = 0
  · rw [if_neg (by omega), if_pos h0, if_neg h255, if_pos h0]; simp
  rw [if_neg (by omega), if_neg h0, if_neg h255, if_neg h0]
  congr 1
  have : ((n : ℤ) - (2 ^ (8 - 1) - 1) - (23 : ℕ)) = ((n : ℤ) - 127) + (-23) := by norm_num; ring
  rw [this, zpow_add₀ (by norm_num)]
  norm_num
  ring

/-- A float32 word is read with eight exponent and twenty-three fraction bits. -/
theorem ofBits_f32 (b : BitVec 32) : Ideal.ofBits .f32 b = Ideal.ieee 8 23 b := rfl

/-- The power made from the field `n` is `P n`. -/
theorem power_ofNat (n : ℕ) (hn : n < 256) : power (BitVec.ofNat 32 n) = P n := by
  obtain ⟨h1, h2, h3⟩ := bits_of_field ⟨n, hn⟩
  have hs : IntOp.shli .vector (BitVec.ofNat 32 n) 23#32 = BitVec.ofNat 32 n <<< (23#32) := by
    unfold IntOp.shli; rw [if_pos (by decide)]
  unfold power
  rw [hs, ofBits_f32]
  exact ieee_field _ n h1 h2 h3

/-- The field 0 has the value zero. -/
theorem P_zero : P 0 = 0 := by simp [P]
/-- The field 255 has the value infinity. -/
theorem P_top : P 255 = ⊤ := by simp [P]
/-- Every other field `n` has the value two to the `n - 127`. -/
theorem P_mid (n : ℕ) (h0 : n ≠ 0) (h : n ≠ 255) : P n = (((2 : ℝ) ^ ((n : ℤ) - 127) : ℝ) : EReal) := by simp [P, h0, h]

/-- A field's value is at most its successor's. -/
theorem P_le_succ (n : ℕ) (h : n < 255) : P n ≤ P (n + 1) := by
  by_cases h1 : n + 1 = 255
  · rw [h1, P_top]; exact le_top
  rw [P_mid (n + 1) (by omega) h1]
  by_cases h0 : n = 0
  · subst h0; rw [P_zero]; exact_mod_cast (by positivity)
  rw [P_mid n h0 (by omega)]
  exact EReal.coe_le_coe_iff.mpr (zpow_le_zpow_right₀ (by norm_num) (by push_cast; omega))

/-- The value grows with the field. -/
theorem P_mono {a b : ℕ} (hab : a ≤ b) (hb : b ≤ 255) : P a ≤ P b := by
  induction b, hab using Nat.le_induction with
  | base => exact le_rfl
  | succ k hk ih => exact (ih (by omega)).trans (P_le_succ k (by omega))

/-! ## The bisection finds the field -/

/-- Where the bisection stands when the bits from `w` up are decided: the field reached is a multiple of `w`, its power is
    at most `x` unless it is zero, and `w` more is too much. -/
def Inv (x : EReal) (w : ℕ) (b : BitVec 32) : Prop :=
  ∃ n, n + w ≤ 256 ∧ w ∣ n ∧ b = BitVec.ofNat 32 n ∧ (n = 0 ∨ P n ≤ x) ∧ (n + w = 256 ∨ x < P (n + w))

/-- Setting a bit below all those set is adding it. -/
theorem or_bit : ∀ j : Fin 8, ∀ n : Fin 256, 2 ^ (j.val + 1) ∣ n.val →
    BitVec.ofNat 32 n.val ||| BitVec.ofNat 32 (2 ^ j.val) = BitVec.ofNat 32 (n.val + 2 ^ j.val) := by decide +kernel

/-- A step of the bisection decides one bit more. -/
theorem step_inv (x : EReal) (j : ℕ) (hj : j < 8) (b : BitVec 32) (h : Inv x (2 ^ (j + 1)) b) :
    Inv x (2 ^ j) (step x (BitVec.ofNat 32 (2 ^ j)) b) := by
  obtain ⟨n, hn, hd, hb, h1, h2⟩ := h
  have hpos : 0 < 2 ^ j := by positivity
  have hpow : 2 ^ (j + 1) = 2 ^ j + 2 ^ j := by rw [pow_succ]; ring
  have hor : IntOp.ori b (BitVec.ofNat 32 (2 ^ j)) = BitVec.ofNat 32 (n + 2 ^ j) := by
    rw [hb]; exact or_bit ⟨j, hj⟩ ⟨n, by omega⟩ hd
  have hd' : 2 ^ j ∣ n := (pow_dvd_pow 2 (Nat.le_succ j)).trans hd
  unfold step
  rw [hor, power_ofNat _ (by omega)]
  by_cases hx : P (n + 2 ^ j) ≤ x
  · have hc : Ideal.cmp .oge x (P (n + 2 ^ j)) = 1#1 := by simp [Ideal.cmp, hx]
    rw [hc]
    refine ⟨n + 2 ^ j, by omega, (Nat.dvd_add_right hd').mpr dvd_rfl, ?_, .inr hx, ?_⟩
    · simp [Scalar.select]
    · rw [add_assoc, ← hpow]; exact h2
  · have hc : Ideal.cmp .oge x (P (n + 2 ^ j)) = 0#1 := by simp [Ideal.cmp, hx]
    rw [hc]
    refine ⟨n, by omega, hd', ?_, h1, .inr (not_le.mp hx)⟩
    simp [Scalar.select, hb]

/-- The field reached has a power at most `x` (unless it is 0), and the next field's power is above `x` (unless it is 255). -/
theorem field_spec (x : EReal) :
    ∃ n, n ≤ 255 ∧ field x = BitVec.ofNat 32 n ∧ (n = 0 ∨ P n ≤ x) ∧ (n = 255 ∨ x < P (n + 1)) := by
  have h8 : Inv x (2 ^ 8) 0#32 := ⟨0, by norm_num, dvd_zero _, rfl, .inl rfl, .inl (by norm_num)⟩
  have h := step_inv x 0 (by omega) _ (step_inv x 1 (by omega) _ (step_inv x 2 (by omega) _ (step_inv x 3 (by omega) _
    (step_inv x 4 (by omega) _ (step_inv x 5 (by omega) _ (step_inv x 6 (by omega) _ (step_inv x 7 (by omega) _ h8)))))))
  obtain ⟨n, hn, -, hb, h1, h2⟩ := h
  refine ⟨n, by simpa using Nat.le_of_lt_succ (by simpa using hn), hb, h1, ?_⟩
  rcases h2 with h2 | h2
  · left; simpa using h2
  · right; simpa using h2

/-! ## The candidates -/

/-- The integer of the candidate at place `k` is `k - 125`. -/
theorem cand_int : ∀ k : Fin 253, (IntOp.subi (BitVec.ofNat 32 k.val) 125#32).toInt = (k.val : ℤ) - 125 := by decide +kernel

/-- The candidate at place `k` is `k - 125`. -/
theorem cand_eq (k : Fin 253) : cand k = ((((k.val : ℤ) - 125 : ℤ) : ℝ) : EReal) := by unfold cand; rw [cand_int]

/-- `exp2` of an integer is that power of two. -/
theorem exp2_int (n : ℤ) : Ideal.exp2 (((n : ℝ)) : EReal) = (((2 : ℝ) ^ n : ℝ) : EReal) := by
  rw [Ideal.exp2_coe]; congr 1; exact Real.rpow_intCast 2 n

/-- Between two neighbouring powers the least exponent is the upper one's. -/
theorem least_eq (x : EReal) (n : ℕ) (h1 : 1 ≤ n) (h2 : n ≤ 252) (hl : P n ≤ x) (hu : x < P (n + 1)) :
    least x = ((((n : ℤ) - 126 : ℤ) : ℝ) : EReal) := by
  rw [P_mid n (by omega) (by omega)] at hl
  rw [P_mid (n + 1) (by omega) (by omega)] at hu
  unfold least
  apply le_antisymm
  · -- the candidate `n - 126` is among them
    have hk : n - 1 < 253 := by omega
    refine (Finset.fold_min_le _).mpr (.inr ⟨⟨n - 1, hk⟩, Finset.mem_univ _, ?_⟩)
    have hc : cand ⟨n - 1, hk⟩ = ((((n : ℤ) - 126 : ℤ) : ℝ) : EReal) := by
      rw [cand_eq]; congr 2; push_cast [Nat.cast_sub h1]; ring
    rw [hc, exp2_int]
    have hu' : x < (((2 : ℝ) ^ ((n : ℤ) - 126) : ℝ) : EReal) := by
      have : ((n + 1 : ℕ) : ℤ) - 127 = (n : ℤ) - 126 := by push_cast; ring
      rwa [this] at hu
    simp [Scalar.select, Ideal.cmp, hu']
  · -- a smaller one's power does not exceed `x`
    refine (Finset.le_fold_min _).mpr ⟨le_top, fun k _ => ?_⟩
    by_cases hk : x < Ideal.exp2 (cand k)
    · have : Scalar.select (Ideal.cmp .ogt (Ideal.exp2 (cand k)) x) (cand k) ⊤ = cand k := by simp [Scalar.select, Ideal.cmp, hk]
      rw [this, cand_eq]
      rw [cand_eq, exp2_int] at hk
      have h3 := lt_of_le_of_lt hl hk
      have h4 : (2 : ℝ) ^ ((n : ℤ) - 127) < (2 : ℝ) ^ ((k.val : ℤ) - 125) := by exact_mod_cast h3
      have h5 : (n : ℤ) - 127 < (k.val : ℤ) - 125 := (zpow_lt_zpow_iff_right₀ (by norm_num)).mp h4
      have h6 : (n : ℤ) - 126 ≤ (k.val : ℤ) - 125 := by omega
      exact_mod_cast h6
    · have : Scalar.select (Ideal.cmp .ogt (Ideal.exp2 (cand k)) x) (cand k) ⊤ = ⊤ := by simp [Scalar.select, Ideal.cmp, hk]
      rw [this]; exact le_top

/-! ## The two sides agree -/

/-- The least normal float32 is the value of the field 1. -/
theorem ofBits_tiny : Ideal.ofBits .f32 0x00800000#32 = P 1 := by
  rw [← power_ofNat 1 (by norm_num)]; rfl
/-- The word of infinity is infinity. -/
theorem ofBits_inf : Ideal.ofBits .f32 0x7F800000#32 = ⊤ := by
  rw [← P_top, ← power_ofNat 255 (by norm_num)]; rfl

/-- For a field that is neither 0 nor 255, the exponent's arithmetic on words is the arithmetic on numbers. -/
theorem expo_bits : ∀ n : Fin 256, n.val ≠ 0 → n.val ≠ 255 →
    IntOp.ori (IntOp.cmpi .eq (BitVec.ofNat 32 n.val) 0#32) (IntOp.cmpi .eq (BitVec.ofNat 32 n.val) 255#32) = 0#1
    ∧ IntOp.addi 127#32 (IntOp.subi (BitVec.ofNat 32 n.val) 126#32) = BitVec.ofNat 32 (n.val + 1)
    ∧ (n.val ≤ 252 → IntOp.subi 127#32 (IntOp.subi (BitVec.ofNat 32 n.val) 126#32) = BitVec.ofNat 32 (253 - n.val)) := by
  decide +kernel

/-- For a number that is infinite or below `2^126`, the kernel's scale and inverse are the reference's. -/
theorem scale_inv (x : EReal) (hx : x = ⊤ ∨ x < P 253) :
    scale x = Ideal.exp2 (rexpo x) ∧ inv x = Ideal.exp2 (Ideal.ofBits .f32 0x00000000#32 - rexpo x) := by
  have hP127 : P 127 = 1 := by rw [P_mid 127 (by norm_num) (by norm_num)]; norm_num
  have e0 : Ideal.exp2 (0 : EReal) = 1 := by
    have := exp2_int 0; norm_num at this; exact this
  -- where both exponents are zero
  have zero_case : expo x = 0#32 → rexpo x = 0 → scale x = Ideal.exp2 (rexpo x) ∧ inv x = Ideal.exp2 (Ideal.ofBits .f32 0x00000000#32 - rexpo x) := by
    intro h1 h2
    unfold scale inv
    rw [h1, h2, Ideal.ofBits_zero_f32, sub_zero, e0]
    have ha : IntOp.addi 127#32 0#32 = BitVec.ofNat 32 127 := rfl
    have hs : IntOp.subi 127#32 0#32 = BitVec.ofNat 32 127 := rfl
    rw [ha, hs, power_ofNat 127 (by norm_num), hP127]
    exact ⟨rfl, rfl⟩
  obtain ⟨n, hn, hf, h1, h2⟩ := field_spec x
  by_cases h255 : n = 255
  · subst h255
    have hxt : x = ⊤ := by
      rcases h1 with h | h
      · omega
      · rw [P_top] at h; exact top_le_iff.mp h
    refine zero_case ?_ ?_
    · unfold expo; rw [hf]; rfl
    · unfold rexpo; rw [hxt, ofBits_inf, Ideal.ofBits_zero_f32]
      simp [Scalar.select, Ideal.cmp, IntOp.ori]
  have hx1 : x < P (n + 1) := h2.resolve_left h255
  by_cases h0 : n = 0
  · subst h0
    refine zero_case ?_ ?_
    · unfold expo; rw [hf]; rfl
    · unfold rexpo; rw [ofBits_tiny, Ideal.ofBits_zero_f32]
      have h1' : x < P 1 := by simpa using hx1
      rw [ofBits_inf]
      have ht : x ≠ ⊤ := fun h => by rw [h] at h1'; exact absurd h1' not_top_lt
      simp [Scalar.select, Ideal.cmp, IntOp.ori, h1', ht]
  have hl : P n ≤ x := h1.resolve_left h0
  have hxt : x ≠ ⊤ := fun h => by rw [h] at hx1; exact absurd hx1 not_top_lt
  have hn252 : n ≤ 252 := by
    by_contra hc
    have h3 : P 253 ≤ P n := P_mono (by omega) (by omega)
    exact absurd (hx.resolve_left hxt) (not_lt.mpr (h3.trans hl))
  obtain ⟨b1, b2, b3⟩ := expo_bits ⟨n, by omega⟩ h0 h255
  dsimp only at b1 b2 b3
  have hexpo : expo x = IntOp.subi (BitVec.ofNat 32 n) 126#32 := by
    unfold expo; rw [hf, b1]; simp [Scalar.select]
  have hr : rexpo x = ((((n : ℤ) - 126 : ℤ) : ℝ) : EReal) := by
    rw [← least_eq x n (by omega) hn252 hl hx1]
    have hP1 : P 1 ≤ x := (P_mono (by omega) (by omega)).trans hl
    unfold rexpo; rw [ofBits_tiny, ofBits_inf]
    simp [Scalar.select, Ideal.cmp, IntOp.ori, hxt, not_lt.mpr hP1]
  constructor
  · unfold scale
    rw [hexpo, b2, power_ofNat _ (by omega), hr, exp2_int, P_mid _ (by omega) (by omega)]
    congr 2; push_cast; ring
  · unfold inv
    rw [hexpo, b3 hn252, power_ofNat _ (by omega), hr, Ideal.ofBits_zero_f32, P_mid _ (by omega) (by omega)]
    have : (0 : EReal) - ((((n : ℤ) - 126 : ℤ) : ℝ) : EReal) = ((((126 - (n : ℤ) : ℤ)) : ℝ) : EReal) := by
      rw [zero_sub, ← EReal.coe_neg]; congr 1; push_cast; ring
    rw [this, exp2_int]
    congr 2; push_cast [Nat.cast_sub (show n ≤ 253 by omega)]; ring

end Cert.Pow2

end
-- ==== Proof.Value.Vec.lean ====
/- The exponent bisection of `Pow2`, on vectors: each vector operation acts entry by entry. -/
module

public import proofs.«01_k».proof.Proof.Value.Pow2
public import Idealize.ShloMosaic.PureOps.Ideal.Laws

@[expose] public section

noncomputable section

namespace Cert.Vec

open Idealize.ShloMosaic

variable {s : Shape}

/-- One step of the bisection on a vector. -/
def vstep (x : FVec Ideal s .f32) (w : BitVec 32) (b : IVec s 32) : IVec s 32 :=
  select (cmpf .oge x (bitcastToFloat .f32 (shli (ori b (broadcast s w)) (broadcast s 23#32)))) (ori b (broadcast s w)) b

/-- At an entry, the vector step is the step of that entry. -/
theorem vstep_apply (x : FVec Ideal s .f32) (w : BitVec 32) (b : IVec s 32) (i : s.Idx) :
    vstep x w b i = Pow2.step (x i) w (b i) := rfl

/-- The field to the exponent, on a vector. -/
def vexpo (b : IVec s 32) : IVec s 32 :=
  select (ori (cmpi .eq b (broadcast s 0#32)) (cmpi .eq b (broadcast s 255#32))) (broadcast s 0#32) (subi b (broadcast s 126#32))

/-- At an entry, the exponent of that entry's field. -/
theorem vexpo_apply (b : IVec s 32) (i : s.Idx) :
    vexpo b i = Scalar.select (IntOp.ori (IntOp.cmpi .eq (b i) 0#32) (IntOp.cmpi .eq (b i) 255#32)) 0#32 (IntOp.subi (b i) 126#32) := rfl

/-- The power of two of an exponent field, on a vector. -/
def vpower (b : IVec s 32) : FVec Ideal s .f32 := bitcastToFloat .f32 (shli b (broadcast s 23#32))

/-- At an entry, the power of that entry's field. -/
theorem vpower_apply (b : IVec s 32) (i : s.Idx) : vpower b i = Pow2.power (b i) := rfl

/-- The eight steps, then the exponent: at an entry, the exponent `Pow2.expo` finds. -/
theorem vexpo_steps (x : FVec Ideal s .f32) (i : s.Idx) :
    vexpo (vstep x 1#32 (vstep x 2#32 (vstep x 4#32 (vstep x 8#32 (vstep x 16#32 (vstep x 32#32 (vstep x 64#32
      (vstep x 128#32 (broadcast s 0#32))))))))) i = Pow2.expo (x i) := by
  simp only [vexpo_apply, vstep_apply]
  rfl

end Cert.Vec
-- ==== Proof.Value.Spec.lean ====
/- The quantities both programs compute, on the extended reals. -/
module

public import proofs.«01_k».proof.Proof.Value.Pow2
public import Idealize.ShloMosaic.Lib.Pointwise.Index

@[expose] public section

noncomputable section

namespace Cert.Spec

open Idealize.ShloMosaic

/-- The magnitude of a number. -/
def mag (x : EReal) : EReal := max x (-x)

/-- A magnitude is at least zero. -/
theorem mag_nonneg (x : EReal) : 0 ≤ mag x := by
  rcases le_total 0 x with h | h
  · exact h.trans (le_max_left _ _)
  · exact (EReal.neg_nonneg.mpr h).trans (le_max_right _ _)

/-- The factor of the weight's quantiser, near 1/448. -/
def C8 : EReal := Ideal.ofBits .f32 0x3B124925#32
/-- The factor of the gradient's quantiser, near 1/57344. -/
def C5 : EReal := Ideal.ofBits .f32 0x37924925#32

/-- A value clipped to the range of the weight's codes. -/
def clip8 (x : EReal) : EReal := min (Ideal.ofBits .f32 0x43E00000#32) (max (Ideal.ofBits .f32 0xC3E00000#32) x)
/-- A value clipped to the range of the gradient's codes. -/
def clip5 (x : EReal) : EReal := min (Ideal.ofBits .f32 0x47600000#32) (max (Ideal.ofBits .f32 0xC7600000#32) x)

/-- The greatest magnitude along one row of numbers. -/
def rowMax (f : Fin 8448 → EReal) : EReal := Finset.univ.fold max ⊥ fun k => mag (f k)

/-- The greatest magnitude over a whole weight. -/
def allMax (f : Fin 4096 → Fin 8448 → EReal) : EReal := Finset.univ.fold max ⊥ fun x : Fin 4096 × Fin 8448 => mag (f x.1 x.2)

/-- A row's greatest magnitude is at most a bound exactly when every magnitude on the row is. -/
theorem rowMax_le (f : Fin 8448 → EReal) (c : EReal) : rowMax f ≤ c ↔ ∀ k, mag (f k) ≤ c := by
  unfold rowMax
  rw [Finset.fold_max_le]
  simp

/-- The weight's greatest magnitude is at most a bound exactly when every magnitude in it is. -/
theorem allMax_le (f : Fin 4096 → Fin 8448 → EReal) (c : EReal) : allMax f ≤ c ↔ ∀ r k, mag (f r k) ≤ c := by
  unfold allMax
  rw [Finset.fold_max_le]
  simp

/-- The bf16 word for minus infinity. -/
theorem ofBits_ninf16 : Ideal.ofBits .bf16 0xFF80#16 = ⊥ := by
  simp [Ideal.ofBits, Ideal.ieee]

/-- The f32 word for minus infinity. -/
theorem ofBits_ninf32 : Ideal.ofBits .f32 0xFF800000#32 = ⊥ := by
  simp [Ideal.ofBits, Ideal.ieee]

end Cert.Spec
-- ==== Proof.Value.Pay.lean ====
/- What each payload of the kernel holds at an entry, on the extended reals. -/
module

public import proofs.«01_k».proof.Proof.Gen.KernelIdeal.Skeleton
public import proofs.«01_k».proof.Proof.Value.Vec
public import proofs.«01_k».proof.Proof.Value.Spec
public import Idealize.ShloMosaic.Lib.Pointwise

@[expose] public section

noncomputable section

namespace Cert.Pay

open Idealize.ShloMosaic
open Cert.KernelIdeal Cert.KernelIdeal.Gen Cert.Vec Cert.Spec

/-! ## The first call: the greatest magnitude of the weight -/

/-- The accumulator starts at zero. -/
theorem start (r : Fin 16) (l : Fin 8448) : k0_pay1 (F := Ideal) (ix2 r l) = (0 : EReal) := by
  pointwise [k0_pay1]

/-- The row of a block of 256 that row `r` of chunk `q` is. -/
def chunkRow (q r : Fin 16) : Fin 256 := ⟨q.val * 16 + r.val, by omega⟩

/-- One point's update: the accumulator's entry against the magnitudes of the sixteen chunks. -/
theorem update (v3 : Vec Ideal S256x8448 .bf16) (v5 : Vec Ideal S16x8448 .bf16) (r : Fin 16) (l : Fin 8448) :
    k0_pay2 (F := Ideal) v3 v5 (ix2 r l)
      = max (v5 (ix2 r l) : EReal) (Finset.univ.fold max (⊥ : EReal) fun q : Fin 16 => mag (v3 (ix2 (chunkRow q r) l))) := by
  pointwise [k0_pay2]
  rw [ofBits_ninf16]
  rfl

/-- The updated entry is at most a bound exactly when the entry and every magnitude folded in are. -/
theorem update_le (v3 : Vec Ideal S256x8448 .bf16) (v5 : Vec Ideal S16x8448 .bf16) (r : Fin 16) (l : Fin 8448) (c : EReal) :
    (k0_pay2 (F := Ideal) v3 v5 (ix2 r l) : EReal) ≤ c
      ↔ (v5 (ix2 r l) : EReal) ≤ c ∧ ∀ q : Fin 16, mag (v3 (ix2 (chunkRow q r) l)) ≤ c := by
  rw [update, max_le_iff, Finset.fold_max_le]
  simp

/-- The scaled maximum of the accumulator. -/
theorem scaled (a : Vec Ideal S16x8448 .bf16) :
    k0_pay3 (F := Ideal) a (ix2 0 0)
      = (Finset.univ.fold max (⊥ : EReal) fun x : Fin 16 × Fin 8448 => a (ix2 x.1 x.2)) * C8 := by
  pointwise [k0_pay3]
  rw [ofBits_ninf32]
  rfl

/-- The first five steps of the weight's bisection. -/
theorem k0_pay4_eq (a : Vec Ideal S16x8448 .bf16) :
    k0_pay4 (F := Ideal) a = vstep (k0_pay3 (F := Ideal) a) 8#32 (vstep (k0_pay3 (F := Ideal) a) 16#32
      (vstep (k0_pay3 (F := Ideal) a) 32#32 (vstep (k0_pay3 (F := Ideal) a) 64#32
        (vstep (k0_pay3 (F := Ideal) a) 128#32 (broadcast S1x1 0#32))))) := by
  unfold k0_pay4 vstep
  rfl

/-- The last three steps of the weight's bisection, and the exponent of the field they reach. -/
theorem k0_pay5_eq (x : FVec Ideal S1x1 .f32) (b : IVec S1x1 32) :
    k0_pay5 (F := Ideal) x b = vexpo (vstep x 1#32 (vstep x 2#32 (vstep x 4#32 b))) := by
  unfold k0_pay5 vstep vexpo
  rfl

/-- The weight's scale is two to the exponent, made from its bits. -/
theorem k0_pay6_eq (x : FVec Ideal S1x1 .f32) (b : IVec S1x1 32) :
    k0_pay6 (F := Ideal) x b = vpower (addi (broadcast _ 127#32) (k0_pay5 (F := Ideal) x b)) := by
  unfold k0_pay6 vpower
  rfl

/-- The weight's inverse scale is two to minus the exponent, made from its bits. -/
theorem k0_pay7_eq (x : FVec Ideal S1x1 .f32) (b : IVec S1x1 32) :
    k0_pay7 (F := Ideal) x b = vpower (subi (broadcast _ 127#32) (k0_pay5 (F := Ideal) x b)) := by
  unfold k0_pay7 vpower
  rfl

/-- The weight's exponent. -/
theorem expo8 (a : Vec Ideal S16x8448 .bf16) (i : S1x1.Idx) :
    k0_pay5 (F := Ideal) (k0_pay3 a) (k0_pay4 a) i = Pow2.expo (k0_pay3 (F := Ideal) a i) := by
  rw [k0_pay4_eq, k0_pay5_eq, vexpo_steps]

/-- The weight's scale. -/
theorem scale8 (a : Vec Ideal S16x8448 .bf16) (i : S1x1.Idx) :
    k0_pay6 (F := Ideal) (k0_pay3 a) (k0_pay4 a) i = Pow2.scale (k0_pay3 (F := Ideal) a i) := by
  rw [k0_pay6_eq, vpower_apply, Pow2.scale, ← expo8]
  rfl

/-- The weight's inverse scale. -/
theorem inv8 (a : Vec Ideal S16x8448 .bf16) (i : S1x1.Idx) :
    k0_pay7 (F := Ideal) (k0_pay3 a) (k0_pay4 a) i = Pow2.inv (k0_pay3 (F := Ideal) a i) := by
  rw [k0_pay7_eq, vpower_apply, Pow2.inv, ← expo8]
  rfl

/-! ## The second call: the weight's codes -/

/-- A weight's code: the weight by the inverse scale, clipped. -/
theorem codes8 (v : Vec Ideal S1x1 .f32) (w : Vec Ideal S256x8448 .bf16) (r : Fin 256) (l : Fin 8448) :
    k1_pay1 (F := Ideal) v w (ix2 r l) = clip8 ((w (ix2 r l) : EReal) * v (ix2 0 0)) := by
  pointwise [k1_pay1]
  rfl

/-! ## The third call: the gradient's codes and the product -/

/-- A row's scaled greatest magnitude. -/
theorem rowScaled (v : Vec Ideal S512x8448 .bf16) (r : Fin 512) :
    k2_pay4 (F := Ideal) v (ix2 r 0) = rowMax (fun k => v (ix2 r k)) * C5 := by
  have h := Ideal.multiReduction_maximumf_single (a := (1 : Fin 2)) (absf (k2_pay3 v)) 0xFF80#16 reduces_S512x8448_S512 (.inr rfl) rfl (ix1 r)
  have e : ∀ y : FVec Ideal S512 .bf16, mulf (extf .f32 (shapeCast S512x1 y shapeCasts_S512_S512x1) bitsLt_bf16_f32)
      (broadcast S512x1 (Scalar.ofBits .f32 0x37924925#32)) (ix2 r 0) = y (ix1 r) * Ideal.ofBits .f32 0x37924925#32 := by
    intro y
    pointwise
  have z : (FloatOps.ofBits (F := Ideal) .bf16 0xFF80#16 : EReal) = ⊥ := ofBits_ninf16
  unfold k2_pay4
  refine (e _).trans ?_
  rw [h, z]
  refine congrArg (· * C5) ?_
  refine Finset.fold_congr fun k _ => ?_
  have e : reduces_S512x8448_S512.lift (ix1 r) k = ix2 r k := by
    funext d
    fin_cases d
    · rfl
    · rfl
  change max (k2_pay3 v (reduces_S512x8448_S512.lift (ix1 r) k)) (-(k2_pay3 v (reduces_S512x8448_S512.lift (ix1 r) k))) = _
  rw [e]
  unfold k2_pay3
  rw [shapeCast_self]
  rfl

/-- The first five steps of the rows' bisection. -/
theorem k2_pay5_eq (v : FVec Ideal S512x8448 .bf16) :
    k2_pay5 (F := Ideal) v = vstep (k2_pay4 (F := Ideal) v) 8#32 (vstep (k2_pay4 (F := Ideal) v) 16#32
      (vstep (k2_pay4 (F := Ideal) v) 32#32 (vstep (k2_pay4 (F := Ideal) v) 64#32
        (vstep (k2_pay4 (F := Ideal) v) 128#32 (broadcast S512x1 0#32))))) := by
  unfold k2_pay5 vstep
  rfl

/-- The last three steps of the rows' bisection, and the exponent of the field they reach. -/
theorem k2_pay6_eq (x : FVec Ideal S512x1 .f32) (b : IVec S512x1 32) :
    k2_pay6 (F := Ideal) x b 4#32 = vexpo (vstep x 1#32 (vstep x 2#32 (vstep x 4#32 b))) := by
  unfold k2_pay6 vstep vexpo
  rfl

/-- A row's scale is two to the exponent, made from its bits. -/
theorem k2_pay7_eq (x : FVec Ideal S512x1 .f32) (b : IVec S512x1 32) :
    k2_pay7 (F := Ideal) x b 4#32 = vpower (addi (broadcast _ 127#32) (k2_pay6 (F := Ideal) x b 4#32)) := by
  unfold k2_pay7 vpower
  rfl

/-- A row's exponent. -/
theorem expo5 (v : Vec Ideal S512x8448 .bf16) (i : S512x1.Idx) :
    k2_pay6 (F := Ideal) (k2_pay4 v) (k2_pay5 v) 4#32 i = Pow2.expo (k2_pay4 (F := Ideal) v i) := by
  rw [k2_pay5_eq, k2_pay6_eq, vexpo_steps]

/-- A row's scale. -/
theorem scale5 (v : Vec Ideal S512x8448 .bf16) (r : Fin 512) :
    k2_pay7 (F := Ideal) (k2_pay4 v) (k2_pay5 v) 4#32 (ix2 r 0) = Pow2.scale (rowMax (fun k => v (ix2 r k)) * C5) := by
  rw [k2_pay7_eq, vpower_apply, Pow2.scale, ← rowScaled, ← expo5]
  rfl

/-- A gradient's code: the gradient by its row's inverse scale, clipped. -/
theorem codes5 (v : Vec Ideal S512x8448 .bf16) (r : Fin 512) (l : Fin 8448) :
    k2_pay1 (F := Ideal) (k2_pay8 (k2_pay3 v) (k2_pay4 v) (k2_pay5 v) 4#32) (ix2 r l)
      = clip5 ((v (ix2 r l) : EReal) * Pow2.inv (rowMax (fun k => v (ix2 r k)) * C5)) := by
  have h : ∀ (x : FVec Ideal S512x1 .f32) (b : IVec S512x1 32),
      k2_pay1 (F := Ideal) (k2_pay8 (k2_pay3 v) x b 4#32) (ix2 r l)
        = clip5 ((v (ix2 r l) : EReal) * Pow2.power (IntOp.subi 127#32 (k2_pay6 (F := Ideal) x b 4#32 (ix2 r 0)))) := by
    intro x b
    pointwise [k2_pay1, k2_pay8, k2_pay3]
    rfl
  rw [h, Pow2.inv, ← rowScaled, ← expo5]

/-- An entry of the product: codes against codes, by the row's scale, by the weight's scale. -/
theorem product (x : Vec Ideal S512x8448 .fp8e5m2) (w : Vec Ideal S1024x8448 .fp8e4m3) (a : Vec Ideal S512x1 .f32) (b : Vec Ideal S1x1 .f32)
    (r : Fin 512) (l : Fin 1024) :
    k2_pay2 (F := Ideal) x w a b (ix2 r l)
      = (∑ k : Fin 8448, (x (ix2 r k) : EReal) * w (ix2 l k)) * a (ix2 r 0) * b (ix2 0 0) := by
  pointwise [k2_pay2]

end Cert.Pay
-- ==== Proof.Value.ArrAmax.lean ====
/- The weight's scale and its inverse: what the first call leaves in its result arrays. -/
module

public import proofs.«01_k».proof.Proof.KernelIdeal.Amax
public import proofs.«01_k».proof.Proof.Value.Pay
public import Idealize.ShloMosaic.Lib.Pipeline.ValueKit

@[expose] public section

noncomputable section

namespace Cert.ArrAmax

open Idealize.ShloMosaic Idealize.ShloMosaic.TcCoe
open Cert.KernelIdeal Cert.KernelIdeal.Gen Cert.Spec
open Cert.KernelIdeal.Amax

/-- Block `t` of the weight is its rows from `256 t`. -/
theorem idx0 : ∀ t : Fin cfg0.N, win0_0.index t = ![t.val, 0] := (by decide +kernel : ∀ t : Fin grid0.N, win0_0.index t = ![t.val, 0])

/-- The last point. -/
def last : Fin cfg0.N := ⟨15, by decide⟩

/-- Row `r` of block `t`, in the whole weight. -/
def row (t : Fin cfg0.N) (r : Fin 256) : Fin 4096 := ⟨t.val * 256 + r.val, by have : t.val < 16 := t.isLt; omega⟩

variable (V : Dev nD → Valuation τ sig (Elt Ideal)) (c : Dev nD)

/-- The weight's block at an entry. -/
theorem weight_at (w : Vec Ideal S4096x8448 .bf16) (hw : V c main_arg1 = w) (t : Fin cfg0.N) (r : Fin 256) (l : Fin 8448) :
    (iblk (F := Ideal) V c 0 t : Vec Ideal S256x8448 .bf16) (ix2 r l) = w (ix2 (row t r) l) := by
  blk_simp [iblk]
  rw [hw]
  have e : (win0_0.blk t).view.emb (ix2 r l) = (ix2 (row t r) l : S4096x8448.Idx) := by
    unfold row
    blk_ext [idx0]
  rw [e]

/-- One update keeps every entry under a bound exactly when it was and the block's magnitudes are. -/
theorem update_all (x : Vec Ideal S256x8448 .bf16) (a : Vec Ideal S16x8448 .bf16) (b : EReal) :
    (∀ r l, (k0_pay2 (F := Ideal) x a (ix2 r l) : EReal) ≤ b)
      ↔ (∀ r l, (a (ix2 r l) : EReal) ≤ b) ∧ ∀ r l, mag (x (ix2 r l)) ≤ b := by
  constructor
  · intro h
    refine ⟨fun r l => ((Pay.update_le x a r l b).mp (h r l)).1, fun r l => ?_⟩
    have h2 := ((Pay.update_le x a ⟨r.val % 16, by omega⟩ l b).mp (h _ l)).2 ⟨r.val / 16, by omega⟩
    have e : Pay.chunkRow ⟨r.val / 16, by omega⟩ ⟨r.val % 16, by omega⟩ = r := by
      apply Fin.ext
      show r.val / 16 * 16 + r.val % 16 = r.val
      omega
    rwa [e] at h2
  · rintro ⟨h1, h2⟩ r l
    exact (Pay.update_le x a r l b).mpr ⟨h1 r l, fun q => h2 _ l⟩

/-- After point `n` the accumulator is under a bound exactly when the bound is at least zero and the magnitudes of the
    blocks so far are under it. -/
theorem acc_le (w : Vec Ideal S4096x8448 .bf16) (hw : V c main_arg1 = w) (b : EReal) : ∀ (n : ℕ) (h : n < cfg0.N),
    (∀ r l, (acc (F := Ideal) V c n h (ix2 r l) : EReal) ≤ b)
      ↔ 0 ≤ b ∧ ∀ t : Fin cfg0.N, t.val ≤ n → ∀ r l, mag (w (ix2 (row t r) l)) ≤ b
  | 0, h => by
    have e := acc_zero (F := Ideal) V c ⟨0, h⟩ rfl
    dsimp only at e
    rw [e, update_all]
    constructor
    · rintro ⟨h1, h2⟩
      refine ⟨?_, fun t ht r l => ?_⟩
      · have := h1 0 0
        rwa [Pay.start] at this
      · obtain rfl : t = ⟨0, h⟩ := Fin.ext (Nat.le_zero.mp ht)
        have := h2 r l
        rwa [weight_at V c w hw] at this
    · rintro ⟨h1, h2⟩
      refine ⟨fun r l => ?_, fun r l => ?_⟩
      · rw [Pay.start]; exact h1
      · rw [weight_at V c w hw]; exact h2 _ (le_refl _) r l
  | n + 1, h => by
    have e := acc_pos (F := Ideal) V c ⟨n + 1, h⟩ (Nat.succ_ne_zero n)
    dsimp only at e
    rw [e, update_all]
    have ih := acc_le w hw b n (Nat.lt_of_succ_lt h)
    constructor
    · rintro ⟨h1, h2⟩
      obtain ⟨h0, h3⟩ := ih.mp h1
      refine ⟨h0, fun t ht r l => ?_⟩
      rcases Nat.lt_or_ge t.val (n + 1) with hl | hl
      · exact h3 t (Nat.lt_succ_iff.mp hl) r l
      · obtain rfl : t = ⟨n + 1, h⟩ := Fin.ext (le_antisymm ht hl)
        have := h2 r l
        rwa [weight_at V c w hw] at this
    · rintro ⟨h0, h3⟩
      refine ⟨ih.mpr ⟨h0, fun t ht => h3 t (Nat.le_succ_of_le ht)⟩, fun r l => ?_⟩
      rw [weight_at V c w hw]
      exact h3 _ (le_refl _) r l

/-- The accumulator's greatest entry after the last point is the weight's greatest magnitude. -/
theorem acc_last (w : Vec Ideal S4096x8448 .bf16) (hw : V c main_arg1 = w) (n : ℕ) (hn : n < cfg0.N) (h15 : 15 ≤ n) :
    (Finset.univ.fold max (⊥ : EReal) fun x : Fin 16 × Fin 8448 => (acc (F := Ideal) V c n hn (ix2 x.1 x.2) : EReal))
      = allMax fun r k => w (ix2 r k) := by
  have key : ∀ b : EReal, (Finset.univ.fold max (⊥ : EReal) fun x : Fin 16 × Fin 8448 =>
      (acc (F := Ideal) V c n hn (ix2 x.1 x.2) : EReal)) ≤ b ↔ (allMax fun r k => w (ix2 r k)) ≤ b := by
    intro b
    rw [Finset.fold_max_le, allMax_le]
    have h := acc_le V c w hw b n hn
    constructor
    · rintro ⟨-, h1⟩ r l
      have h16 : r.val / 256 < cfg0.N := by show _ < 16; omega
      have h2 := (h.mp fun r l => h1 (r, l) (Finset.mem_univ _)).2 ⟨r.val / 256, h16⟩
        (by show r.val / 256 ≤ n; omega) ⟨r.val % 256, by omega⟩ l
      have e : row ⟨r.val / 256, h16⟩ ⟨r.val % 256, by omega⟩ = r := by
        apply Fin.ext
        show r.val / 256 * 256 + r.val % 256 = r.val
        omega
      rwa [e] at h2
    · intro h1
      have h0 : (0 : EReal) ≤ b := (mag_nonneg _).trans (h1 0 0)
      exact ⟨bot_le, fun x _ => (h.mpr ⟨h0, fun t _ r l => h1 _ l⟩) x.1 x.2⟩
  exact le_antisymm ((key _).mpr (le_refl _)) ((key _).mp (le_refl _))

/-- The scale of the accumulator after the last point. -/
theorem scale_acc (w : Vec Ideal S4096x8448 .bf16) (hw : V c main_arg1 = w) (n : ℕ) (hn : n < cfg0.N) (h15 : 15 ≤ n) :
    scaleOf (acc (F := Ideal) V c n hn) (ix2 0 0) = Pow2.scale ((allMax fun r k => w (ix2 r k)) * C8) := by
  have h := acc_last V c w hw n hn h15
  generalize acc (F := Ideal) V c n hn = a at h ⊢
  refine (Pay.scale8 a _).trans (congrArg Pow2.scale ((Pay.scaled a).trans ?_))
  rw [h]

/-- The inverse scale of the accumulator after the last point. -/
theorem inv_acc (w : Vec Ideal S4096x8448 .bf16) (hw : V c main_arg1 = w) (n : ℕ) (hn : n < cfg0.N) (h15 : 15 ≤ n) :
    invOf (acc (F := Ideal) V c n hn) (ix2 0 0) = Pow2.inv ((allMax fun r k => w (ix2 r k)) * C8) := by
  have h := acc_last V c w hw n hn h15
  generalize acc (F := Ideal) V c n hn = a at h ⊢
  refine (Pay.inv8 a _).trans (congrArg Pow2.inv ((Pay.scaled a).trans ?_))
  rw [h]

/-- A vector of one entry is constant. -/
theorem const11 (X : Vec Ideal S1x1 .f32) (x : EReal) (h : X (ix2 0 0) = x) : X = fun _ => x := by
  funext j
  idx_vars j
  have e0 : j0 = 0 := Fin.eq_zero j0
  have e1 : j1 = 0 := Fin.eq_zero j1
  rw [e0, e1]
  exact h

/-- After the call, the weight's scale. -/
theorem scale (w : Vec Ideal S4096x8448 .bf16) (hw : V c main_arg1 = w) :
    (dat (F := Ideal) V c).arrAt 1 cfg0.N = fun _ : S1x1.Idx => Pow2.scale ((allMax fun r k => w (ix2 r k)) * C8) := by
  have ha := (after_1 (F := Ideal) V c last).trans (const11 _ _ (scale_acc V c w hw last.val last.isLt (le_refl 15)))
  generalize Pow2.scale ((allMax fun r k => w (ix2 r k)) * C8) = x at ha ⊢
  refine (dat V c).arrAt_eq_of_after_last 1 last (by decide +kernel) _ fun j => ?_
  rw [ha]
  exact eq_of_heq (cast_heq _ _)

/-- After the call, the inverse scale. -/
theorem inv (w : Vec Ideal S4096x8448 .bf16) (hw : V c main_arg1 = w) :
    (dat (F := Ideal) V c).arrAt 2 cfg0.N = fun _ : S1x1.Idx => Pow2.inv ((allMax fun r k => w (ix2 r k)) * C8) := by
  have ha := (after_2 (F := Ideal) V c last).trans (const11 _ _ (inv_acc V c w hw last.val last.isLt (le_refl 15)))
  generalize Pow2.inv ((allMax fun r k => w (ix2 r k)) * C8) = x at ha ⊢
  refine (dat V c).arrAt_eq_of_after_last 2 last (by decide +kernel) _ fun j => ?_
  rw [ha]
  exact eq_of_heq (cast_heq _ _)

end Cert.ArrAmax
-- ==== Proof.Value.ArrQuant.lean ====
/- The weight's codes: what the second call leaves in its result array. -/
module

public import proofs.«01_k».proof.Proof.KernelIdeal.Quant
public import proofs.«01_k».proof.Proof.Value.Pay
public import Idealize.ShloMosaic.Lib.Pipeline.ValueKit

@[expose] public section

noncomputable section

namespace Cert.ArrQuant

open Idealize.ShloMosaic Idealize.ShloMosaic.TcCoe
open Cert.KernelIdeal Cert.KernelIdeal.Gen Cert.Spec
open Cert.KernelIdeal.Quant

/-- Block `t` of the weight is its rows from `256 t`. -/
theorem idx1 : ∀ t : Fin cfg1.N, win1_1.index t = ![t.val, 0] := (by decide +kernel : ∀ t : Fin grid1.N, win1_1.index t = ![t.val, 0])
/-- Block `t` of the codes is their rows from `256 t`. -/
theorem idx2 : ∀ t : Fin cfg1.N, win1_2.index t = ![t.val, 0] := (by decide +kernel : ∀ t : Fin grid1.N, win1_2.index t = ![t.val, 0])
/-- The inverse scale's block is the array. -/
theorem idx0 : ∀ t : Fin cfg1.N, win1_0.index t = ![0, 0] := (by decide +kernel : ∀ t : Fin grid1.N, win1_0.index t = ![0, 0])

variable (V : Dev nD → Valuation τ sig (Elt Ideal))

/-- After the call, every code is its weight by the inverse scale, clipped. -/
theorem codes (c : Dev nD) (w : Vec Ideal S4096x8448 .bf16) (s : Vec Ideal S1x1 .f32) (hw : V c main_arg1 = w) (hs : V c main_v1_1 = s) :
    (dat (F := Ideal) V c).arrAt 2 cfg1.N = fun i : S4096x8448.Idx => clip8 ((w i : EReal) * s (ix2 0 0)) := by
  refine (dat V c).arrAt_eq_of_covers 2 _ (by decide +kernel) fun t hf y => ?_
  blk_simp
  rw [after_2]
  idx_vars y
  rw [Pay.codes8]
  blk_simp [iblk]
  rw [hw, hs]
  have e1 : (win1_1.blk t).view.emb (ix2 y0 y1) = (win1_2.blk t).view.emb (ix2 y0 y1) := by
    blk_ext [idx1, idx2]
  have e0 : (win1_0.blk t).view.emb (ix2 0 0) = (ix2 0 0 : S1x1.Idx) := by
    blk_ext [idx0]
  rw [e1, e0]

end Cert.ArrQuant
-- ==== Proof.Value.ArrDgrad.lean ====
/- The gradient's codes, its row scales and the product: what the third call leaves in its result arrays. -/
module

public import proofs.«01_k».proof.Proof.KernelIdeal.Dgrad
public import proofs.«01_k».proof.Proof.Value.Pay
public import Idealize.ShloMosaic.Lib.Pipeline.ValueKit

@[expose] public section

noncomputable section

namespace Cert.ArrDgrad

open Idealize.ShloMosaic Idealize.ShloMosaic.TcCoe
open Cert.KernelIdeal Cert.KernelIdeal.Gen Cert.Spec
open Cert.KernelIdeal.Dgrad

/-- The weight's scale is one block. -/
theorem idx0 : ∀ t : Fin cfg2.N, win2_0.index t = ![0, 0] := (by decide +kernel : ∀ t : Fin grid2.N, win2_0.index t = ![0, 0])
/-- The gradient's block follows the first grid coordinate. -/
theorem idx1 : ∀ t : Fin cfg2.N, win2_1.index t = ![t.val / 4, 0] := (by decide +kernel : ∀ t : Fin grid2.N, win2_1.index t = ![t.val / 4, 0])
/-- The weight codes' block follows the second grid coordinate. -/
theorem idx2 : ∀ t : Fin cfg2.N, win2_2.index t = ![t.val % 4, 0] := (by decide +kernel : ∀ t : Fin grid2.N, win2_2.index t = ![t.val % 4, 0])
/-- The product's block follows both. -/
theorem idx3 : ∀ t : Fin cfg2.N, win2_3.index t = ![t.val / 4, t.val % 4] :=
  (by decide +kernel : ∀ t : Fin grid2.N, win2_3.index t = ![t.val / 4, t.val % 4])
/-- The gradient codes' block follows the first coordinate. -/
theorem idx4 : ∀ t : Fin cfg2.N, win2_4.index t = ![t.val / 4, 0] := (by decide +kernel : ∀ t : Fin grid2.N, win2_4.index t = ![t.val / 4, 0])
/-- The row scales' block follows the first coordinate. -/
theorem idx5 : ∀ t : Fin cfg2.N, win2_5.index t = ![t.val / 4, 0] := (by decide +kernel : ∀ t : Fin grid2.N, win2_5.index t = ![t.val / 4, 0])

/-- Row `r` of block `t` of the gradient, in the whole gradient. -/
def row (t : Fin cfg2.N) (r : Fin 512) : Fin 4096 := ⟨t.val / 4 * 512 + r.val, by have : t.val < 32 := t.isLt; omega⟩
/-- Row `l` of block `t` of the weight, in the whole weight. -/
def col (t : Fin cfg2.N) (l : Fin 1024) : Fin 4096 := ⟨t.val % 4 * 1024 + l.val, by omega⟩

variable (V : Dev nD → Valuation τ sig (Elt Ideal)) (c : Dev nD)

/-- The gradient's block at an entry. -/
theorem grad_at (g : Vec Ideal S4096x8448 .bf16) (hg : V c main_v0 = g) (t : Fin cfg2.N) (r : Fin 512) (l : Fin 8448) :
    (iblk (F := Ideal) V c 1 t : Vec Ideal S512x8448 .bf16) (ix2 r l) = g (ix2 (row t r) l) := by
  blk_simp [iblk]
  rw [hg]
  have e : (win2_1.blk t).view.emb (ix2 r l) = (ix2 (row t r) l : S4096x8448.Idx) := by
    unfold row
    blk_ext [idx1]
  rw [e]

/-- The weight codes' block at an entry. -/
theorem codes_at (w : Vec Ideal S4096x8448 .fp8e4m3) (hw : V c main_v2 = w) (t : Fin cfg2.N) (r : Fin 1024) (l : Fin 8448) :
    (iblk (F := Ideal) V c 2 t : Vec Ideal S1024x8448 .fp8e4m3) (ix2 r l) = w (ix2 (col t r) l) := by
  blk_simp [iblk]
  rw [hw]
  have e : (win2_2.blk t).view.emb (ix2 r l) = (ix2 (col t r) l : S4096x8448.Idx) := by
    unfold col
    blk_ext [idx2]
  rw [e]

/-- The weight's scale, as the point sees it. -/
theorem scale_at (s : Vec Ideal S1x1 .f32) (hs : V c main_v1_0 = s) (t : Fin cfg2.N) :
    (iblk (F := Ideal) V c 0 t : Vec Ideal S1x1 .f32) (ix2 0 0) = s (ix2 0 0) := by
  blk_simp [iblk]
  rw [hs]
  have e : (win2_0.blk t).view.emb (ix2 0 0) = (ix2 0 0 : S1x1.Idx) := by
    blk_ext [idx0]
  rw [e]

/-- A row's scaled greatest magnitude. -/
def rowX (g : Vec Ideal S4096x8448 .bf16) (r : Fin 4096) : EReal := rowMax (fun k => g (ix2 r k)) * C5

/-- The block's row gives the whole gradient's row. -/
theorem rowX_at (g : Vec Ideal S4096x8448 .bf16) (hg : V c main_v0 = g) (t : Fin cfg2.N) (r : Fin 512) :
    rowMax (fun k => (iblk (F := Ideal) V c 1 t : Vec Ideal S512x8448 .bf16) (ix2 r k)) * C5 = rowX g (row t r) := by
  unfold rowX
  refine congrArg (fun f => rowMax f * C5) (funext fun k => grad_at V c g hg t r k)

/-- A gradient's code. -/
def code (g : Vec Ideal S4096x8448 .bf16) (r : Fin 4096) (l : Fin 8448) : EReal :=
  clip5 ((g (ix2 r l) : EReal) * Pow2.inv (rowX g r))

/-- The block's code is the whole gradient's code. -/
theorem code_at (g : Vec Ideal S4096x8448 .bf16) (hg : V c main_v0 = g) (t : Fin cfg2.N) (r : Fin 512) (l : Fin 8448) :
    codes (F := Ideal) (iblk V c 1 t) (ix2 r l) = code g (row t r) l := by
  refine (Pay.codes5 (iblk (F := Ideal) V c 1 t) r l).trans ?_
  rw [rowX_at V c g hg, grad_at V c g hg]
  rfl

/-- The block's row scale is the whole gradient's. -/
theorem scales_at (g : Vec Ideal S4096x8448 .bf16) (hg : V c main_v0 = g) (t : Fin cfg2.N) (r : Fin 512) :
    scales (F := Ideal) (iblk V c 1 t) (ix2 r 0) = Pow2.scale (rowX g (row t r)) := by
  refine (Pay.scale5 (iblk (F := Ideal) V c 1 t) r).trans ?_
  rw [rowX_at V c g hg]

/-- After the call, the gradient's codes. -/
theorem dyc (g : Vec Ideal S4096x8448 .bf16) (hg : V c main_v0 = g) :
    (dat (F := Ideal) V c).arrAt 4 cfg2.N = fun i : S4096x8448.Idx => code g (i 0) (i 1) := by
  refine (dat V c).arrAt_eq_of_covers 4 _ (by decide +kernel) fun t hf y => ?_
  blk_simp
  rw [after_4]
  idx_vars y
  refine (code_at V c g hg t y0 y1).trans ?_
  have e : (win2_4.blk t).view.emb (ix2 y0 y1) = (ix2 (row t y0) y1 : S4096x8448.Idx) := by
    unfold row
    blk_ext [idx4]
  rw [e]
  rfl

/-- A one-column vector, as a function of the row. -/
theorem column (X : Vec Ideal S512x1 .f32) (x : Fin 512 → EReal) (h : ∀ r, X (ix2 r 0) = x r) : X = fun i => x (i 0) := by
  funext j
  idx_vars j
  have e1 : j1 = 0 := Fin.eq_zero j1
  rw [e1]
  exact h j0

/-- After the call, the row scales. -/
theorem dys (g : Vec Ideal S4096x8448 .bf16) (hg : V c main_v0 = g) :
    (dat (F := Ideal) V c).arrAt 5 cfg2.N = fun i : S4096x1.Idx => Pow2.scale (rowX g (i 0)) := by
  refine (dat V c).arrAt_eq_of_covers 5 _ (by decide +kernel) fun t hf y => ?_
  have ha := (after_5 (F := Ideal) V c t).trans (column _ _ (scales_at V c g hg t))
  generalize hx : (fun r => Pow2.scale (rowX g r)) = x
  have hx' : ∀ r, Pow2.scale (rowX g r) = x r := fun r => congrFun hx r
  simp only [hx'] at ha
  rw [ha]
  clear ha hx
  blk_simp
  idx_vars y
  have e : (win2_5.blk t).view.emb (ix2 y0 y1) = (ix2 (row t y0) 0 : S4096x1.Idx) := by
    unfold row
    blk_ext [idx5]
  rw [e]
  refine Eq.trans ?_ (hx' (row t y0)).symm
  rfl

/-- After the call, the product: the codes of the gradient against those of the weight, by both scales. -/
theorem dx (g : Vec Ideal S4096x8448 .bf16) (hg : V c main_v0 = g) (w : Vec Ideal S4096x8448 .fp8e4m3) (hw : V c main_v2 = w)
    (s : Vec Ideal S1x1 .f32) (hs : V c main_v1_0 = s) :
    (dat (F := Ideal) V c).arrAt 3 cfg2.N = fun i : S4096x4096.Idx =>
      (∑ k : Fin 8448, code g (i 0) k * (w (ix2 (i 1) k) : EReal)) * Pow2.scale (rowX g (i 0)) * s (ix2 0 0) := by
  refine (dat V c).arrAt_eq_of_covers 3 _ (by decide +kernel) fun t hf y => ?_
  blk_simp
  rw [after_3]
  idx_vars y
  have e : (win2_3.blk t).view.emb (ix2 y0 y1) = (ix2 (row t y0) (col t y1) : S4096x4096.Idx) := by
    unfold row col
    blk_ext [idx3]
  rw [e]
  refine (Pay.product (codes (F := Ideal) (iblk V c 1 t)) (iblk (F := Ideal) V c 2 t) (scales (F := Ideal) (iblk V c 1 t))
    (iblk (F := Ideal) V c 0 t) y0 y1).trans ?_
  rw [scales_at V c g hg, scale_at V c s hs]
  refine congrArg (fun z : EReal => z * Pow2.scale (rowX g (row t y0)) * s (ix2 0 0)) ?_
  refine Finset.sum_congr rfl fun k _ => ?_
  rw [code_at V c g hg, codes_at V c w hw]
  rfl

end Cert.ArrDgrad
-- ==== Proof.Value.KerEnd.lean ====
/- What the kernel's results hold at the end, in closed form over its arguments. -/
module

public import proofs.«01_k».proof.Proof.KernelIdeal.Run
public import proofs.«01_k».proof.Proof.Value.ArrAmax
public import proofs.«01_k».proof.Proof.Value.ArrQuant
public import proofs.«01_k».proof.Proof.Value.ArrDgrad
public import Idealize.ShloMosaic.Lib.StableHlo.RunRead

@[expose] public section

noncomputable section

namespace Cert.KerEnd

open Idealize.ShloMosaic Idealize.ShloMosaic.TcCoe
open Cert.KernelIdeal Cert.KernelIdeal.Gen Cert.KernelIdeal.Run Cert.Spec

variable (m : (ℓ : Loc nD τ sig) → Buf (Elt Ideal) ℓ) (c : Dev nD)

/-- The gradient as the calls read it: the first argument with its leading axes merged. -/
def grad : Vec Ideal S4096x8448 .bf16 := shapeCast S4096x8448 (m ((c : Thread nD τ).loc main_arg0)) shapeCasts_S4x1024x8448_S4096x8448

/-- The weight: the second argument. -/
def weight : Vec Ideal S4096x8448 .bf16 := m ((c : Thread nD τ).loc main_arg1)

/-- The weight's scaled greatest magnitude. -/
def allX (w : Vec Ideal S4096x8448 .bf16) : EReal := allMax (fun r k => w (ix2 r k)) * C8

/-- The weight's scale, -/
def scales : Vec Ideal S1x1 .f32 := fun _ => Pow2.scale (allX (weight m c))

/-- its inverse, -/
def invs : Vec Ideal S1x1 .f32 := fun _ => Pow2.inv (allX (weight m c))

/-- and its codes. -/
def codes : Vec Ideal S4096x8448 .fp8e4m3 := fun i => clip8 ((weight m c i : EReal) * invs m c (ix2 0 0))

/-- Before the calls, the flattened gradient is the first argument, reshaped. -/
theorem V1_grad : V1 m c main_v0 = grad m c := by
  unfold grad V1
  after_reads_simp
  rfl

/-- Before the calls, the weight is the second argument. -/
theorem V1_weight : V1 m c main_arg1 = weight m c := (V1_of m c main_arg1 (by decide)).trans rfl

/-- After the first call, the scale's array in closed form. -/
theorem W2_scales : W2 m c main_v1_0 = scales m c :=
  (W2_scale m c).trans (ArrAmax.scale (V1 m) c (weight m c) (V1_weight m c))

/-- After the first call, the inverse scale's array in closed form. -/
theorem W2_invs : W2 m c main_v1_1 = invs m c :=
  (W2_inv m c).trans (ArrAmax.inv (V1 m) c (weight m c) (V1_weight m c))

/-- The first call leaves the weight. -/
theorem W2_weight : W2 m c main_arg1 = weight m c := (W2_of m c main_arg1 (by decide)).trans (V1_weight m c)

/-- The first call leaves the gradient. -/
theorem W2_grad : W2 m c main_v0 = grad m c := (W2_of m c main_v0 (by decide)).trans (V1_grad m c)

/-- After the second call, the weight's codes in closed form. -/
theorem W3_code : W3 m c main_v2 = codes m c :=
  (W3_codes m c).trans (ArrQuant.codes (W2 m) c (weight m c) (invs m c) (W2_weight m c) (W2_invs m c))

/-- The second call leaves the gradient. -/
theorem W3_grad : W3 m c main_v0 = grad m c := (W3_of m c main_v0 (by decide)).trans (W2_grad m c)

/-- The second call leaves the scale. -/
theorem W3_scales : W3 m c main_v1_0 = scales m c := (W3_of m c main_v1_0 (by decide)).trans (W2_scales m c)

/-- The third call's results. -/
def dx : Vec Ideal S4096x4096 .bf16 := fun i =>
  (∑ k : Fin 8448, ArrDgrad.code (grad m c) (i 0) k * (codes m c (ix2 (i 1) k) : EReal)) * Pow2.scale (ArrDgrad.rowX (grad m c) (i 0))
    * scales m c (ix2 0 0)

/-- The gradient's codes, in closed form. -/
def dyc : Vec Ideal S4096x8448 .fp8e5m2 := fun i => ArrDgrad.code (grad m c) (i 0) (i 1)

/-- The gradient's scales, in closed form. -/
def dys : Vec Ideal S4096x1 .f32 := fun i => Pow2.scale (ArrDgrad.rowX (grad m c) (i 0))

/-- After the third call, the product in closed form. -/
theorem W4_dx' : W4 m c main_v3_0 = dx m c :=
  (W4_dx m c).trans (ArrDgrad.dx (W3 m) c (grad m c) (W3_grad m c) (codes m c) (W3_code m c) (scales m c) (W3_scales m c))

/-- After the third call, the gradient's codes in closed form. -/
theorem W4_dyc' : W4 m c main_v3_1 = dyc m c :=
  (W4_dyc m c).trans (ArrDgrad.dyc (W3 m) c (grad m c) (W3_grad m c))

/-- After the third call, the gradient's scales in closed form. -/
theorem W4_dys' : W4 m c main_v3_2 = dys m c :=
  (W4_dys m c).trans (ArrDgrad.dys (W3 m) c (grad m c) (W3_grad m c))

/-- The weight's codes at the end. -/
theorem end_codes : Vend m c main_v2 = codes m c := by
  refine (V5_of m (outs m) c main_v2 (by decide)).trans ?_
  rw [V4_eq]
  exact (W4_codes m c).trans (W3_code m c)

/-- The weight's scale at the end. -/
theorem end_scales : Vend m c main_v1_0 = scales m c := by
  refine (V5_of m (outs m) c main_v1_0 (by decide)).trans ?_
  rw [V4_eq]
  exact (W4_of m c main_v1_0 (by decide)).trans (W3_scales m c)

/-- The product at the end. -/
theorem end_dx : Vend m c main_v4 = shapeCast S4x1024x4096 (dx m c) shapeCasts_S4096x4096_S4x1024x4096 := by
  rw [← W4_dx', ← V4_eq]
  unfold Vend V5
  after_reads_simp
  rfl

/-- The gradient's codes at the end. -/
theorem end_dyc : Vend m c main_v5 = shapeCast S4x1024x8448 (dyc m c) shapeCasts_S4096x8448_S4x1024x8448 := by
  rw [← W4_dyc', ← V4_eq]
  unfold Vend V5
  after_reads_simp
  rfl

/-- The row scales at the end. -/
theorem end_dys : Vend m c main_v6 = shapeCast S4x1024x1 (dys m c) shapeCasts_S4096x1_S4x1024x1 := by
  rw [← W4_dys', ← V4_eq]
  unfold Vend V5
  after_reads_simp
  rfl

end Cert.KerEnd
-- ==== Proof.Value.RefPay.lean ====
/- What each payload of the reference holds at an entry, on the extended reals. -/
module

public import proofs.«01_k».proof.Proof.Gen.ReferenceIdeal.Skeleton
public import proofs.«01_k».proof.Proof.Value.Spec
public import Idealize.ShloMosaic.Lib.Pointwise

@[expose] public section

noncomputable section

namespace Cert.RefPay

open Idealize.ShloMosaic
open Cert.ReferenceIdeal Cert.ReferenceIdeal.Gen Cert.Spec

/-- The least candidate exponent, in the form the payload gives it. -/
theorem least_form (x : EReal) :
    (Finset.univ.fold min (Ideal.ofBits .f32 0x7F800000#32) fun k : Fin 253 =>
      if x < Ideal.exp2 (Pow2.cand k) then Pow2.cand k else Ideal.ofBits .f32 0x7F800000#32) = Pow2.least x := by
  unfold Pow2.least
  rw [Pow2.ofBits_inf]
  refine Finset.fold_congr fun k _ => ?_
  unfold Ideal.cmp Scalar.select
  by_cases h : x < Ideal.exp2 (Pow2.cand k) <;> simp [h]

/-- The f32 word for zero. -/
theorem ofBits_zero : Ideal.ofBits .f32 0x00000000#32 = 0 := by
  simp [Ideal.ofBits, Ideal.ieee]

/-- The reference's exponent, in the form the payloads give it. -/
theorem rexpo_form (x : EReal) :
    Pow2.rexpo x = Scalar.select (IntOp.ori (BitVec.ofBool (decide (x < Ideal.ofBits .f32 0x00800000#32)))
        (BitVec.ofBool (decide (x = Ideal.ofBits .f32 0x7F800000#32)))) 0
      (Finset.univ.fold min (Ideal.ofBits .f32 0x7F800000#32) fun k : Fin 253 =>
        if x < Ideal.exp2 (Pow2.cand k) then Pow2.cand k else Ideal.ofBits .f32 0x7F800000#32) := by
  rw [least_form, Pow2.rexpo, ofBits_zero]
  rfl

/-- The weight's exponent. -/
theorem expo8 (w : Vec Ideal S4096x8448 .bf16) :
    k0_pay2 (F := Ideal) w (ix2 0 0) = Pow2.rexpo (allMax (fun r k => w (ix2 r k)) * C8) := by
  pointwise [k0_pay2, k0_pay1]
  rw [ofBits_ninf32, rexpo_form]
  rfl

/-- The power of two, entry by entry. -/
theorem exp2_at (y : FVec Ideal S1x1 .f32) (i : S1x1.Idx) : exp2 y i = Ideal.exp2 (y i) := rfl

/-- The weight's scale from its exponent. -/
theorem scale8_of (w : Vec Ideal S4096x8448 .bf16) (i : S1x1.Idx) :
    k0_pay3 (F := Ideal) w i = Ideal.exp2 (k0_pay2 (F := Ideal) w i) := by
  refine Eq.trans ?_ (exp2_at (k0_pay2 (F := Ideal) w) i)
  unfold k0_pay3
  with_reducible rfl

/-- The weight's scale. -/
theorem scale8 (w : Vec Ideal S4096x8448 .bf16) :
    k0_pay3 (F := Ideal) w (ix2 0 0) = Ideal.exp2 (Pow2.rexpo (allMax (fun r k => w (ix2 r k)) * C8)) :=
  (scale8_of w _).trans (congrArg Ideal.exp2 (expo8 w))

/-- The clipping of a weight by a given exponent, entry by entry. -/
theorem clip_at (w : Vec Ideal S4096x8448 .bf16) (y : FVec Ideal S1x1 .f32) (r : Fin 4096) (l : Fin 8448) :
    truncf .fp8e4m3 (minimumf (broadcast S4096x8448 (Scalar.ofBits .f32 0x43E00000#32))
      (maximumf (broadcast S4096x8448 (Scalar.ofBits .f32 0xC3E00000#32))
        (mulf (k0_pay1 (F := Ideal) w) (broadcastTo S4096x8448 (exp2 (subf (broadcast S1x1 (Scalar.ofBits .f32 0x00000000#32)) y))
          broadcasts_S1x1_S4096x8448)))) bitsLt_fp8e4m3_f32 (ix2 r l)
      = clip8 ((w (ix2 r l) : EReal) * Ideal.exp2 (Ideal.ofBits .f32 0x00000000#32 - y (ix2 0 0))) := by
  pointwise [k0_pay1]
  rfl

/-- A weight's code from the exponent. -/
theorem codes8_of (w : Vec Ideal S4096x8448 .bf16) (r : Fin 4096) (l : Fin 8448) :
    k0_pay4 (F := Ideal) w (ix2 r l)
      = clip8 ((w (ix2 r l) : EReal) * Ideal.exp2 (Ideal.ofBits .f32 0x00000000#32 - k0_pay2 (F := Ideal) w (ix2 0 0))) := by
  refine Eq.trans ?_ (clip_at w (k0_pay2 (F := Ideal) w) r l)
  unfold k0_pay4
  with_reducible rfl

/-- A weight's code. -/
theorem codes8 (w : Vec Ideal S4096x8448 .bf16) (r : Fin 4096) (l : Fin 8448) :
    k0_pay4 (F := Ideal) w (ix2 r l)
      = clip8 ((w (ix2 r l) : EReal)
          * Ideal.exp2 (Ideal.ofBits .f32 0x00000000#32 - Pow2.rexpo (allMax (fun r k => w (ix2 r k)) * C8))) :=
  (codes8_of w r l).trans
    (congrArg (fun e => clip8 ((w (ix2 r l) : EReal) * Ideal.exp2 (Ideal.ofBits .f32 0x00000000#32 - e))) (expo8 w))

/-- A row's greatest magnitude. -/
theorem rowMax5 (v : Vec Ideal S4096x8448 .bf16) (r : Fin 4096) :
    k0_pay6 (F := Ideal) v (ix1 r) = rowMax (fun k => v (ix2 r k)) := by
  have h := Ideal.multiReduction_maximumf_single (a := (1 : Fin 2)) (absf (k0_pay5 v)) 0xFF800000#32 reduces_S4096x8448_S4096 (.inl rfl) rfl (ix1 r)
  have z : (FloatOps.ofBits (F := Ideal) .f32 0xFF800000#32 : EReal) = ⊥ := ofBits_ninf32
  unfold k0_pay6
  refine h.trans ?_
  rw [z]
  refine Finset.fold_congr fun k _ => ?_
  have e : reduces_S4096x8448_S4096.lift (ix1 r) k = ix2 r k := by
    funext d
    fin_cases d
    · rfl
    · rfl
  change max (k0_pay5 v (reduces_S4096x8448_S4096.lift (ix1 r) k)) (-(k0_pay5 v (reduces_S4096x8448_S4096.lift (ix1 r) k))) = _
  rw [e]
  unfold k0_pay5
  rw [shapeCast_self]
  rfl

/-- A row's exponent. -/
theorem expo5 (m : FVec Ideal S4096 .f32) (r : Fin 4096) :
    k0_pay7 (F := Ideal) m (ix2 r 0) = Pow2.rexpo ((m (ix1 r) : EReal) * C5) := by
  pointwise [k0_pay7]
  rw [rexpo_form]
  rfl

/-- A row's scale. -/
theorem scale5 (m : FVec Ideal S4096 .f32) (r : Fin 4096) :
    k0_pay8 (F := Ideal) m (ix2 r 0) = Ideal.exp2 (Pow2.rexpo ((m (ix1 r) : EReal) * C5)) := by
  rw [← expo5 m]
  rfl

/-- The gradient, widened. -/
theorem grad (v : Vec Ideal S4096x8448 .bf16) (r : Fin 4096) (l : Fin 8448) : k0_pay5 (F := Ideal) v (ix2 r l) = (v (ix2 r l) : EReal) := by
  pointwise [k0_pay5]

/-- A gradient's code. -/
theorem codes5 (v : FVec Ideal S4096x8448 .f32) (m : FVec Ideal S4096 .f32) (r : Fin 4096) (l : Fin 8448) :
    k0_pay9 (F := Ideal) v m (ix2 r l)
      = clip5 ((v (ix2 r l) : EReal)
          * Ideal.exp2 (Ideal.ofBits .f32 0x00000000#32 - Pow2.rexpo ((m (ix1 r) : EReal) * C5))) := by
  rw [← expo5 m]
  pointwise [k0_pay9]
  rfl

/-- An entry of the product. -/
theorem product (b : FVec Ideal S1x1 .f32) (w : FVec Ideal S4096x8448 .fp8e4m3) (v : FVec Ideal S4096x8448 .f32) (m : FVec Ideal S4096 .f32)
    (r : Fin 4096) (l : Fin 4096) :
    k0_pay10 (F := Ideal) b w v m (ix2 r l)
      = (∑ k : Fin 8448, (k0_pay9 (F := Ideal) v m (ix2 r k) : EReal) * w (ix2 l k)) * k0_pay8 (F := Ideal) m (ix2 r 0) * b (ix2 0 0) := by
  pointwise [k0_pay10]

end Cert.RefPay
-- ==== Proof.Value.RefArr.lean ====
/- What the reference leaves in its result arrays, in closed form over the arrays its one call reads. -/
module

public import proofs.«01_k».proof.Proof.Gen.ReferenceIdeal.Frame
public import proofs.«01_k».proof.Proof.Value.RefPay
public import Idealize.ShloMosaic.Lib.Pipeline.ValueKit

@[expose] public section

noncomputable section

namespace Cert.RefArr

open Idealize.ShloMosaic Idealize.ShloMosaic.TcCoe
open Cert.ReferenceIdeal Cert.ReferenceIdeal.Gen Cert.Spec

/-- A power of two, from the scaled greatest magnitude. -/
def up (x : EReal) : EReal := Ideal.exp2 (Pow2.rexpo x)

/-- Its inverse. -/
def down (x : EReal) : EReal := Ideal.exp2 (Ideal.ofBits .f32 0x00000000#32 - Pow2.rexpo x)

/-- The weight's scaled greatest magnitude. -/
def allX (w : Vec Ideal S4096x8448 .bf16) : EReal := allMax (fun r k => w (ix2 r k)) * C8

/-- A row's scaled greatest magnitude. -/
def rowX (g : Vec Ideal S4096x8448 .bf16) (r : Fin 4096) : EReal := rowMax (fun k => g (ix2 r k)) * C5

/-- A weight's code. -/
def wcode (w : Vec Ideal S4096x8448 .bf16) (i : S4096x8448.Idx) : EReal := clip8 ((w i : EReal) * down (allX w))

/-- A gradient's code. -/
def gcode (g : Vec Ideal S4096x8448 .bf16) (i : S4096x8448.Idx) : EReal := clip5 ((g i : EReal) * down (rowX g (i 0)))

/-- The product: the codes of the gradient against those of the weight, by both scales. -/
def prod (g w : Vec Ideal S4096x8448 .bf16) (i : S4096x4096.Idx) : EReal :=
  (∑ k : Fin 8448, gcode g (ix2 (i 0) k) * wcode w (ix2 (i 1) k)) * up (rowX g (i 0)) * up (allX w)

/-- A load of a whole buffer. -/
theorem ld_whole (x : Vec Ideal S4096x8448 .bf16) : View.ld x r0_0 = x :=
  View.ld_unit_lit' _ x (by decide)

/-- The weight's scale, from the weight alone. -/
theorem pay11 (x0 x1 : Vec Ideal S4096x8448 .bf16) : k0_pay11 (F := Ideal) x0 x1 = k0_pay3 x1 := by
  unfold k0_pay11
  rw [ld_whole]

/-- The weight's codes, from the weight alone. -/
theorem pay12 (x0 x1 : Vec Ideal S4096x8448 .bf16) : k0_pay12 (F := Ideal) x0 x1 = k0_pay4 x1 := by
  unfold k0_pay12
  rw [ld_whole]

/-- The gradient in float32, from the gradient alone. -/
theorem pay13 (x0 x1 : Vec Ideal S4096x8448 .bf16) : k0_pay13 (F := Ideal) x0 x1 = k0_pay5 x0 := by
  unfold k0_pay13
  rw [ld_whole]

/-- The rows' greatest magnitudes, from the gradient alone. -/
theorem pay14 (x0 x1 : Vec Ideal S4096x8448 .bf16) : k0_pay14 (F := Ideal) x0 x1 = k0_pay6 x0 := by
  unfold k0_pay14
  rw [ld_whole]

/-- The weight's code, from the payload. -/
theorem wcode_at (x1 : Vec Ideal S4096x8448 .bf16) (r : Fin 4096) (l : Fin 8448) :
    k0_pay4 (F := Ideal) x1 (ix2 r l) = wcode x1 (ix2 r l) :=
  RefPay.codes8 x1 r l

/-- The weight's scale, from the payload. -/
theorem wscale_at (x1 : Vec Ideal S4096x8448 .bf16) : k0_pay3 (F := Ideal) x1 (ix2 0 0) = up (allX x1) :=
  RefPay.scale8 x1

/-- The gradient's code, from the payloads. -/
theorem gcode_at (x0 : Vec Ideal S4096x8448 .bf16) (r : Fin 4096) (l : Fin 8448) :
    k0_pay9 (F := Ideal) (k0_pay5 x0) (k0_pay6 x0) (ix2 r l) = gcode x0 (ix2 r l) := by
  refine (RefPay.codes5 (k0_pay5 (F := Ideal) x0) (k0_pay6 (F := Ideal) x0) r l).trans ?_
  rw [RefPay.grad, RefPay.rowMax5]
  rfl

/-- A row's scale, from the payloads. -/
theorem gscale_at (x0 : Vec Ideal S4096x8448 .bf16) (r : Fin 4096) :
    k0_pay8 (F := Ideal) (k0_pay6 x0) (ix2 r 0) = up (rowX x0 r) := by
  refine (RefPay.scale5 (k0_pay6 (F := Ideal) x0) r).trans ?_
  rw [RefPay.rowMax5]
  rfl

/-- The product, from the payloads. -/
theorem prod_at (x0 x1 : Vec Ideal S4096x8448 .bf16) (r l : Fin 4096) :
    k0_pay10 (F := Ideal) (k0_pay3 x1) (k0_pay4 x1) (k0_pay5 x0) (k0_pay6 x0) (ix2 r l) = prod x0 x1 (ix2 r l) := by
  refine (RefPay.product (k0_pay3 (F := Ideal) x1) (k0_pay4 (F := Ideal) x1) (k0_pay5 (F := Ideal) x0) (k0_pay6 (F := Ideal) x0) r l).trans ?_
  rw [gscale_at, wscale_at]
  refine congrArg (fun z : EReal => z * up (rowX x0 r) * up (allX x1)) ?_
  refine Finset.sum_congr rfl fun k _ => ?_
  rw [gcode_at, wcode_at]
  rfl

/-- What the body leaves of the product. -/
theorem out2 (x0 x1 : Vec Ideal S4096x8448 .bf16) : out0_2 (F := Ideal) x0 x1 = prod x0 x1 := by
  funext i
  idx_vars i
  refine Eq.trans ?_ (prod_at x0 x1 i0 i1)
  frame_out
  rw [pay11, pay12, pay13, pay14]

/-- What the body leaves of the weight's codes. -/
theorem out3 (x0 x1 : Vec Ideal S4096x8448 .bf16) : out0_3 (F := Ideal) x0 x1 = wcode x1 := by
  funext i
  idx_vars i
  refine Eq.trans ?_ (wcode_at x1 i0 i1)
  frame_out
  rw [pay12]

/-- What the body leaves of the weight's scale. -/
theorem out4 (x0 x1 : Vec Ideal S4096x8448 .bf16) : out0_4 (F := Ideal) x0 x1 = fun _ => up (allX x1) := by
  funext i
  idx_vars i
  have e0 : i0 = 0 := Fin.eq_zero i0
  have e1 : i1 = 0 := Fin.eq_zero i1
  rw [e0, e1]
  refine Eq.trans ?_ (wscale_at x1)
  frame_out
  rw [pay11]

/-- What the body leaves of the gradient's codes. -/
theorem out5 (x0 x1 : Vec Ideal S4096x8448 .bf16) : out0_5 (F := Ideal) x0 x1 = gcode x0 := by
  funext i
  idx_vars i
  refine Eq.trans ?_ (gcode_at x0 i0 i1)
  frame_out
  rw [pay13, pay14]

/-- What the body leaves of the row scales. -/
theorem out6 (x0 x1 : Vec Ideal S4096x8448 .bf16) : out0_6 (F := Ideal) x0 x1 = fun i => up (rowX x0 (i 0)) := by
  funext i
  idx_vars i
  have e1 : i1 = 0 := Fin.eq_zero i1
  rw [e1]
  refine Eq.trans ?_ (gscale_at x0 i0)
  frame_out
  rw [pay14]

/-! ## The arrays -/

variable (m : (ℓ : Loc nD τ sig) → Buf (Elt Ideal) ℓ) (c : Dev nD)

/-- The call's one point. -/
def pt : Fin cfg0.N := ⟨0, by decide⟩

/-- Every window's block at the one point is its whole array. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] :=
  (by decide +kernel : ∀ t : Fin grid0.N, _)

/-- The gradient's block is the gradient. -/
theorem iblk0 : (iblk (F := Ideal) m c 0 pt : Vec Ideal S4096x8448 .bf16) = V m c main_v0 := by
  blk_ext! [iblk, idx pt]

/-- The weight's block is the weight. -/
theorem iblk1 : (iblk (F := Ideal) m c 1 pt : Vec Ideal S4096x8448 .bf16) = V m c main_arg1 := by
  blk_ext! [iblk, idx pt]

/-- After the call, the product. -/
theorem dx : (dats (F := Ideal) m 0 c).arrAt 2 cfg0.N = prod (V m c main_v0) (V m c main_arg1) := by
  have ha := (after0_2 (F := Ideal) m c pt).trans (out2 _ _)
  rw [iblk0, iblk1] at ha
  generalize prod (V m c main_v0) (V m c main_arg1) = x at ha ⊢
  refine (dats m 0 c).arrAt_eq_of_after_last 2 pt (by decide +kernel) _ fun j => ?_
  rw [ha]
  blk_simp

/-- After the call, the weight's codes. -/
theorem wc : (dats (F := Ideal) m 0 c).arrAt 3 cfg0.N = wcode (V m c main_arg1) := by
  have ha := (after0_3 (F := Ideal) m c pt).trans (out3 _ _)
  rw [iblk1] at ha
  generalize wcode (V m c main_arg1) = x at ha ⊢
  refine (dats m 0 c).arrAt_eq_of_after_last 3 pt (by decide +kernel) _ fun j => ?_
  rw [ha]
  blk_simp

/-- After the call, the gradient's codes. -/
theorem dyc : (dats (F := Ideal) m 0 c).arrAt 5 cfg0.N = gcode (V m c main_v0) := by
  have ha := (after0_5 (F := Ideal) m c pt).trans (out5 _ _)
  rw [iblk0] at ha
  generalize gcode (V m c main_v0) = x at ha ⊢
  refine (dats m 0 c).arrAt_eq_of_after_last 5 pt (by decide +kernel) _ fun j => ?_
  rw [ha]
  blk_simp

/-- After the call, the row scales. -/
theorem dys : (dats (F := Ideal) m 0 c).arrAt 6 cfg0.N = (fun i => up (rowX (V m c main_v0) (i 0)) : Vec Ideal S4096x1 .f32) := by
  have ha := (after0_6 (F := Ideal) m c pt).trans (out6 _ _)
  rw [iblk0] at ha
  generalize (fun i => up (rowX (V m c main_v0) (i 0)) : Vec Ideal S4096x1 .f32) = x at ha ⊢
  refine (dats m 0 c).arrAt_eq_of_after_last 6 pt (by decide +kernel) _ fun j => ?_
  rw [ha]
  blk_simp

/-- After the call, the weight's scale. -/
theorem ws : (dats (F := Ideal) m 0 c).arrAt 4 cfg0.N = fun _ : S1x1.Idx => up (allX (V m c main_arg1)) := by
  have ha := (after0_4 (F := Ideal) m c pt).trans (out4 _ _)
  rw [iblk1] at ha
  generalize up (allX (V m c main_arg1)) = x at ha ⊢
  refine (dats m 0 c).arrAt_eq_of_after_last 4 pt (by decide +kernel) _ fun j => ?_
  rw [ha]
  exact eq_of_heq (cast_heq _ _)

end Cert.RefArr
-- ==== Proof.Value.RefRun.lean ====
/- The reference's run: what its results hold at the end, in closed form over the arrays its call reads. -/
module

public import proofs.«01_k».proof.Proof.Value.RefArr
public import Idealize.ShloMosaic.Lib.StableHlo.RunRead

@[expose] public section

noncomputable section

namespace Cert.RefRun

open Idealize.ShloMosaic Idealize.ShloMosaic.TcCoe Idealize.SL.Sem
open Cert.ReferenceIdeal Cert.ReferenceIdeal.Gen Cert.Spec Cert.RefArr

variable (m : (ℓ : Loc nD τ sig) → Buf (Elt Ideal) ℓ) (ρ : Dev nD → PrngReg) (c : Dev nD)

/-- The gradient as the call reads it. -/
theorem entry : V m c main_v0 = shapeCast S4096x8448 (m ((c : Thread nD τ).loc main_arg0)) shapeCasts_S4x1024x8448_S4096x8448 := by
  unfold V V0
  after_reads_simp
  rfl

/-- The contents when the call is over. -/
abbrev Vx : Valuation τ sig (Elt Ideal) :=
  Pipeline.withArrays (cfgs 0).spec c (V0 m c) fun w => (dats m 0 c).arrAt w (cfgs 0).N

/-- An array of the call when it is over. -/
theorem Vx_arr (w : Fin cfg0.W) : Vx m c (Proc.devRef .tc (Pipeline.arrRef spec0 w)) = (dats m 0 c).arrAt w cfg0.N :=
  Pipeline.withArrays_arr (cfgs 0).spec launch0.win.arr_inj c (V0 m c) _ w

/-- What result 0 holds at the end. -/
theorem end0 : Pipeline.afterTail₀ cfgs (dats m) 0 (V0 m) [hostOps1] c main_v2
    = shapeCast S4x1024x4096 ((dats m 0 c).arrAt 2 cfg0.N : Vec Ideal S4096x4096 .bf16) shapeCasts_S4096x4096_S4x1024x4096 := by
  have h := Vx_arr m c 2
  generalize (dats m 0 c).arrAt 2 cfg0.N = x at h ⊢
  subst h
  unfold Pipeline.afterTail₀
  after_reads_simp
  rfl

/-- What result 3 holds at the end. -/
theorem end3 : Pipeline.afterTail₀ cfgs (dats m) 0 (V0 m) [hostOps1] c main_v3
    = shapeCast S4x1024x8448 ((dats m 0 c).arrAt 5 cfg0.N : Vec Ideal S4096x8448 .fp8e5m2) shapeCasts_S4096x8448_S4x1024x8448 := by
  have h := Vx_arr m c 5
  generalize (dats m 0 c).arrAt 5 cfg0.N = x at h ⊢
  subst h
  unfold Pipeline.afterTail₀
  after_reads_simp
  rfl

/-- What result 4 holds at the end. -/
theorem end4 : Pipeline.afterTail₀ cfgs (dats m) 0 (V0 m) [hostOps1] c main_v4
    = shapeCast S4x1024x1 ((dats m 0 c).arrAt 6 cfg0.N : Vec Ideal S4096x1 .f32) shapeCasts_S4096x1_S4x1024x1 := by
  have h := Vx_arr m c 6
  generalize (dats m 0 c).arrAt 6 cfg0.N = x at h ⊢
  subst h
  unfold Pipeline.afterTail₀
  after_reads_simp
  rfl

/-- The run: every result in closed form, the arguments as launched. -/
theorem run : θ_run defs (onTc (τ := τ) (main (F := Ideal))) ⟨m, fun _ => 0, ρ⟩ (fun r => ∀ c : Dev nD,
      r.2.mem ((c.tc : Thread nD τ).loc main_v2)
          = shapeCast S4x1024x4096 (prod (V m c main_v0) (V m c main_arg1) : Vec Ideal S4096x4096 .bf16) shapeCasts_S4096x4096_S4x1024x4096
      ∧ r.2.mem ((c.tc : Thread nD τ).loc main_v1_1) = wcode (V m c main_arg1)
      ∧ r.2.mem ((c.tc : Thread nD τ).loc main_v1_2) = (fun _ => up (allX (V m c main_arg1)) : Vec Ideal S1x1 .f32)
      ∧ r.2.mem ((c.tc : Thread nD τ).loc main_v3)
          = shapeCast S4x1024x8448 (gcode (V m c main_v0) : Vec Ideal S4096x8448 .fp8e5m2) shapeCasts_S4096x8448_S4x1024x8448
      ∧ r.2.mem ((c.tc : Thread nD τ).loc main_v4)
          = shapeCast S4x1024x1 (fun i => up (rowX (V m c main_v0) (i 0)) : Vec Ideal S4096x1 .f32) shapeCasts_S4096x1_S4x1024x1
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main (F := Ideal) m ρ)
  have e2 := RefArr.dx m c
  have e5 := RefArr.dyc m c
  have e6 := RefArr.dys m c
  refine ⟨?_, (h.out_eq c 3).trans (RefArr.wc m c), (h.out_eq c 4).trans (RefArr.ws m c), ?_, ?_, ?_, ?_⟩
  · rw [← e2]
    exact (h.rest_eq c main_v2 (by decide)).trans (end0 m c)
  · rw [← e5]
    exact (h.rest_eq c main_v3 (by decide)).trans (end3 m c)
  · rw [← e6]
    exact (h.rest_eq c main_v4 (by decide)).trans (end4 m c)
  · exact (h.rest_eq c main_arg0 (by decide)).trans (W_main_arg0 m (dats m) c)
  · exact (h.in_eq c 1 rfl).trans ((A_eq m c 1).trans (V_main_arg1 m c))

end Cert.RefRun
-- ==== Proof.Value.Bound.lean ====
/- The precondition gives the range in which the two ways of taking a power of two agree: every scaled greatest magnitude is
   infinite or less than 2 ^ 126. -/
module

public import proofs.«01_k».proof.Pre_within_bfloat16
public import proofs.«01_k».proof.Proof.Gen.Pre_within_bfloat16
public import proofs.«01_k».proof.Proof.Value.Spec
public import proofs.«01_k».proof.Proof.Value.Pow2
public import Idealize.ShloMosaic.Lib.Pointwise

@[expose] public section

noncomputable section

namespace Cert.Bound

open Idealize.ShloMosaic
open Cert.Spec

/-- A number that a finite bfloat16 or an infinity may be. -/
def Ok (x : EReal) : Prop := mag x ≤ Ideal.ofBits .f32 0x7F7F0000#32 ∨ mag x = ⊤

/-- The greatest finite bfloat16. -/
theorem ofBits_big : Ideal.ofBits .f32 0x7F7F0000#32 = (((2 : ℝ) ^ 128 - 2 ^ 120 : ℝ) : EReal) := by
  simp [Ideal.ofBits, Ideal.ieee]
  norm_num
  exact_mod_cast (by norm_num : (16711680 : ℝ) * 2 ^ 104 = 2 ^ 128 - 2 ^ 120)

/-- The real value of the float32 nearest to 1/448. -/
theorem C8_eq : C8 = ((9586981 / 2 ^ 32 : ℝ) : EReal) := by
  unfold C8
  simp [Ideal.ofBits, Ideal.ieee]
  norm_num
  rw [← EReal.coe_mul]
  norm_num

/-- The real value of the float32 nearest to 1/57344. -/
theorem C5_eq : C5 = ((9586981 / 2 ^ 39 : ℝ) : EReal) := by
  unfold C5
  simp [Ideal.ofBits, Ideal.ieee]
  norm_num
  rw [← EReal.coe_mul]
  norm_num

/-- A magnitude in the range, scaled by a small factor, is infinite or less than 2 ^ 126. -/
theorem scaled (a : EReal) (k : ℝ) (hk : 0 < k) (hs : k ≤ 1 / 8) (h : a ≤ Ideal.ofBits .f32 0x7F7F0000#32 ∨ a = ⊤) :
    a * (k : EReal) = ⊤ ∨ a * (k : EReal) < Pow2.P 253 := by
  rcases h with h | h
  · right
    rw [ofBits_big] at h
    have h0 : (0 : EReal) ≤ (k : EReal) := EReal.coe_nonneg.mpr hk.le
    refine lt_of_le_of_lt (mul_le_mul_of_nonneg_right h h0) ?_
    rw [Pow2.P_mid 253 (by norm_num) (by norm_num), ← EReal.coe_mul, EReal.coe_lt_coe_iff]
    have e : ((2 : ℝ) ^ (((253 : ℕ) : ℤ) - 127)) = 2 ^ 126 := by norm_num
    rw [e]
    nlinarith
  · left
    rw [h]
    exact EReal.top_mul_coe_of_pos hk

/-- A row in the range has its scaled greatest magnitude in it. -/
theorem row (f : Fin 8448 → EReal) (h : ∀ k, Ok (f k)) : rowMax f * C5 = ⊤ ∨ rowMax f * C5 < Pow2.P 253 := by
  rw [C5_eq]
  refine scaled _ _ (by norm_num) (by norm_num) ?_
  by_cases hf : ∀ k, mag (f k) ≤ Ideal.ofBits .f32 0x7F7F0000#32
  · exact .inl ((rowMax_le f _).mpr hf)
  · obtain ⟨k, hk⟩ := not_forall.mp hf
    have ht := (h k).resolve_left hk
    exact .inr (top_le_iff.mp (ht ▸ (rowMax_le f _).mp le_rfl k))

/-- A weight in the range has its scaled greatest magnitude in it. -/
theorem all (f : Fin 4096 → Fin 8448 → EReal) (h : ∀ r k, Ok (f r k)) : allMax f * C8 = ⊤ ∨ allMax f * C8 < Pow2.P 253 := by
  rw [C8_eq]
  refine scaled _ _ (by norm_num) (by norm_num) ?_
  by_cases hf : ∀ r k, mag (f r k) ≤ Ideal.ofBits .f32 0x7F7F0000#32
  · exact .inl ((allMax_le f _).mpr hf)
  · obtain ⟨r, hr⟩ := not_forall.mp hf
    obtain ⟨k, hk⟩ := not_forall.mp hr
    have ht := (h r k).resolve_left hk
    exact .inr (top_le_iff.mp (ht ▸ (allMax_le f _).mp le_rfl r k))

open Cert.Pre_within_bfloat16

/-- Two comparisons joined: one of them holds. -/
theorem one_of (x : EReal)
    (h : IntOp.ori (BitVec.ofBool (decide (mag x ≤ Ideal.ofBits .f32 0x7F7F0000#32)))
      (BitVec.ofBool (decide (mag x = Ideal.ofBits .f32 0x7F800000#32))) = 1#1) : Ok x := by
  rw [Pow2.ofBits_inf] at h
  unfold Ok
  by_cases h1 : mag x ≤ Ideal.ofBits .f32 0x7F7F0000#32
  · exact .inl h1
  by_cases h2 : mag x = ⊤
  · exact .inr h2
  rw [decide_eq_false h1, decide_eq_false h2] at h
  exact absurd h (by decide)

attribute [local instance] Cert.Pre_within_bfloat16.Gen.facts

/-- The precondition on the first argument. -/
theorem first (x : Vec Ideal S4x1024x8448 .bf16) (w : Vec Ideal S4096x8448 .bf16) (h : (fn (F := Ideal) x w).1 = fun _ => 1#1) (i : S4x1024x8448.Idx) :
    Ok (x i) := by
  refine one_of (x i) (Eq.trans ?_ (congrFun h i))
  rfl

/-- The precondition on the second argument. -/
theorem second (x : Vec Ideal S4x1024x8448 .bf16) (w : Vec Ideal S4096x8448 .bf16) (h : (fn (F := Ideal) x w).2 = fun _ => 1#1) (i : S4096x8448.Idx) :
    Ok (w i) := by
  refine one_of (w i) (Eq.trans ?_ (congrFun h i))
  rfl

end Cert.Bound
-- ==== Proof.Value.Algebraic.lean ====
/- The value claim: on the extended reals the kernel and the reference leave the same five results. -/
module

public import proofs.«01_k».proof.Defs
public import proofs.«01_k».proof.Proof.Value.KerEnd
public import proofs.«01_k».proof.Proof.Value.RefRun
public import proofs.«01_k».proof.Proof.Value.Bound

@[expose] public section

noncomputable section

namespace Cert.Algebraic

open Idealize.ShloMosaic Idealize.ShloMosaic.TcCoe Idealize.SL.Sem
open Cert.Spec Cert.Bound

section Same

variable (g : Vec Ideal Cert.KernelIdeal.S4096x8448 .bf16) (w : Vec Ideal Cert.KernelIdeal.S4096x8448 .bf16)
  (hg : ∀ i, Ok (g i)) (hw : ∀ i, Ok (w i))

include hg in
/-- In the range, the two ways of taking a row's scale agree, -/
theorem row_up (r : Fin 4096) : Pow2.scale (ArrDgrad.rowX g r) = RefArr.up (RefArr.rowX g r) :=
  (Pow2.scale_inv _ (row (fun k => g (ix2 r k)) fun k => hg _)).1

include hg in
/-- and of its inverse. -/
theorem row_down (r : Fin 4096) : Pow2.inv (ArrDgrad.rowX g r) = RefArr.down (RefArr.rowX g r) :=
  (Pow2.scale_inv _ (row (fun k => g (ix2 r k)) fun k => hg _)).2

include hw in
/-- The same of the weight's scale, -/
theorem all_up : Pow2.scale (KerEnd.allX w) = RefArr.up (RefArr.allX w) :=
  (Pow2.scale_inv _ (all (fun r k => w (ix2 r k)) fun r k => hw _)).1

include hw in
/-- and of its inverse. -/
theorem all_down : Pow2.inv (KerEnd.allX w) = RefArr.down (RefArr.allX w) :=
  (Pow2.scale_inv _ (all (fun r k => w (ix2 r k)) fun r k => hw _)).2

include hg in
/-- The gradient's codes agree. -/
theorem code (r : Fin 4096) (l : Fin 8448) : ArrDgrad.code g r l = RefArr.gcode g (ix2 r l) := by
  unfold ArrDgrad.code RefArr.gcode
  rw [row_down g hg]
  rfl

end Same

section Ends

variable (m : (ℓ : Loc Cert.KernelIdeal.nD Cert.KernelIdeal.τ Cert.KernelIdeal.sig) → Buf (Elt Ideal) ℓ) (c : Dev Cert.KernelIdeal.nD)
  (hg : ∀ i, Ok (KerEnd.grad m c i)) (hw : ∀ i, Ok (KerEnd.weight m c i))

include hw in
/-- The weight's scale, both ways. -/
theorem scales : KerEnd.scales m c = fun _ => RefArr.up (RefArr.allX (KerEnd.weight m c)) := by
  unfold KerEnd.scales
  rw [all_up _ hw]

include hw in
/-- The weight's codes, both ways. -/
theorem codes : KerEnd.codes m c = RefArr.wcode (KerEnd.weight m c) := by
  funext i
  unfold KerEnd.codes KerEnd.invs RefArr.wcode
  rw [all_down _ hw]

include hg in
/-- The row scales, both ways. -/
theorem dys : KerEnd.dys m c = fun i => RefArr.up (RefArr.rowX (KerEnd.grad m c) (i 0)) := by
  funext i
  unfold KerEnd.dys
  idx_vars i
  exact row_up _ hg i0

include hg in
/-- The gradient's codes, both ways. -/
theorem dyc : KerEnd.dyc m c = RefArr.gcode (KerEnd.grad m c) := by
  funext i
  unfold KerEnd.dyc
  idx_vars i
  exact code _ hg i0 i1

include hg hw in
/-- The product, both ways. -/
theorem dx : KerEnd.dx m c = RefArr.prod (KerEnd.grad m c) (KerEnd.weight m c) := by
  funext i
  unfold KerEnd.dx RefArr.prod
  idx_vars i
  rw [codes m c hw, scales m c hw, row_up _ hg]
  refine congrArg (fun z : EReal => z * RefArr.up (RefArr.rowX (KerEnd.grad m c) i0) * RefArr.up (RefArr.allX (KerEnd.weight m c))) ?_
  refine Finset.sum_congr rfl fun k _ => ?_
  rw [code _ hg]

end Ends

section Claim

attribute [local instance] Cert.KernelIdeal.Gen.facts Cert.ReferenceIdeal.Gen.facts Cert.Pre_within_bfloat16.Gen.facts

/-- From memories that agree on the arguments, all of them finite bfloat16 values or infinities, both programs run and leave the same
    five results: the product, the weight's codes and scale, and the gradient's codes and row scales. -/
theorem algebraic : Cert.algebraic_KernelIdeal_ReferenceIdeal_pre_within_bfloat16 := by
  intro m g m' g' hpre hargs
  have hg : ∀ c i, Ok (KerEnd.grad m c i) := fun c i => first _ _ (hpre c).1 _
  have hw : ∀ c i, Ok (KerEnd.weight m c i) := fun c i => second _ _ (hpre c).2 i
  refine ⟨fun c => Cert.KernelIdeal.Run.Vend m c Cert.KernelIdeal.main_v4, fun c => Cert.KernelIdeal.Run.Vend m c Cert.KernelIdeal.main_v2,
    fun c => Cert.KernelIdeal.Run.Vend m c Cert.KernelIdeal.main_v1_0, fun c => Cert.KernelIdeal.Run.Vend m c Cert.KernelIdeal.main_v5,
    fun c => Cert.KernelIdeal.Run.Vend m c Cert.KernelIdeal.main_v6, ?_, ?_⟩
  · refine (θ_run _ _ _).mono (fun r h c => ?_) (Cert.KernelIdeal.Run.run (F := Ideal) m g)
    obtain ⟨⟨a0, a1⟩, r0, r1, r2, r3, r4⟩ := h.1 c
    exact ⟨r0, r1, r2, r3, r4, a0, a1⟩
  · refine (θ_run _ _ _).mono (fun r h c => ?_) (RefRun.run m' g')
    obtain ⟨r0, r1, r2, r3, r4, a0, a1⟩ := h c
    have eg : Cert.ReferenceIdeal.Gen.V (F := Ideal) m' c Cert.ReferenceIdeal.main_v0 = KerEnd.grad m c := by
      refine (RefRun.entry m' c).trans ?_
      rw [(hargs c).1]
      rfl
    have ew : Cert.ReferenceIdeal.Gen.V (F := Ideal) m' c Cert.ReferenceIdeal.main_arg1 = KerEnd.weight m c :=
      (Cert.ReferenceIdeal.Gen.V_main_arg1 m' c).trans (hargs c).2
    rw [eg, ew] at r0
    rw [ew] at r1 r2
    rw [eg] at r3 r4
    refine ⟨r0.trans ?_, r1.trans ?_, r2.trans ?_, r3.trans ?_, r4.trans ?_, a0, a1⟩
    · rw [← dx m c (hg c) (hw c)]
      exact (KerEnd.end_dx m c).symm
    · rw [← codes m c (hw c)]
      exact (KerEnd.end_codes m c).symm
    · rw [← scales m c (hw c)]
      exact (KerEnd.end_scales m c).symm
    · rw [← dyc m c (hg c)]
      exact (KerEnd.end_dyc m c).symm
    · have e := dys m c (hg c)
      generalize (fun i => RefArr.up (RefArr.rowX (KerEnd.grad m c) (i 0)) : Vec Ideal Cert.KernelIdeal.S4096x1 .f32) = x at e ⊢
      rw [← e]
      exact (KerEnd.end_dys m c).symm

end Claim

end Cert.Algebraic
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_within_bfloat16
public import proofs.«01_k».proof.Proof.Kernel.Run
public import proofs.«01_k».proof.Proof.KernelIdeal.Run
public import proofs.«01_k».proof.Proof.Value.Algebraic
public import Idealize.ShloMosaic.Adequacy
public import Idealize.ShloMosaic.Init

@[expose] public section

noncomputable section

namespace Cert.Proof

open Idealize.ShloMosaic Idealize.SL.Sem Cert.Kernel

/-- The kernel runs on the machine's own words, and so do the kernel and the reference on the extended reals, each leaving its arguments as
    they were and every counter at zero; and on the extended reals the kernel and the reference leave the same five results. -/
theorem claim : Cert.Claim := ⟨Cert.Kernel.Gen.facts, Cert.KernelIdeal.Gen.facts, Cert.ReferenceIdeal.Gen.facts, Cert.Pre_within_bfloat16.Gen.facts,
  fun m ρ _ => Cert.Kernel.Run.frame m ρ,
  fun m ρ _ => Cert.KernelIdeal.Run.frame m ρ,
  fun m ρ _ => Cert.KernelIdeal.Run.frame m ρ,
  fun m ρ _ => Cert.ReferenceIdeal.Gen.frame m ρ,
  fun m ρ _ => Cert.ReferenceIdeal.Gen.frame m ρ,
  trivial,
  Cert.Algebraic.algebraic⟩

end Cert.Proof

end
